-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8192x5120 : Shape := ⟨3, ![2, 8192, 5120]⟩
abbrev S_ : Shape := ⟨0, ![]⟩
abbrev S5120x27648 : Shape := ⟨2, ![5120, 27648]⟩
abbrev S27648 : Shape := ⟨1, ![27648]⟩
abbrev S1 : Shape := ⟨1, ![1]⟩
abbrev S16384x5120 : Shape := ⟨2, ![16384, 5120]⟩
abbrev S1x27648 : Shape := ⟨2, ![1, 27648]⟩
abbrev S16384x27648 : Shape := ⟨2, ![16384, 27648]⟩
abbrev S1024x5120 : Shape := ⟨2, ![1024, 5120]⟩
abbrev S5120x1024 : Shape := ⟨2, ![5120, 1024]⟩
abbrev S1x1024 : Shape := ⟨2, ![1, 1024]⟩
abbrev S1024x1024 : Shape := ⟨2, ![1024, 1024]⟩
abbrev S256x1024 : Shape := ⟨2, ![256, 1024]⟩
abbrev S1024 : Shape := ⟨1, ![1024]⟩
abbrev S256x512 : Shape := ⟨2, ![256, 512]⟩
abbrev S1024x512 : Shape := ⟨2, ![1024, 512]⟩
abbrev S1x512 : Shape := ⟨2, ![1, 512]⟩

abbrev nBuf : Space → Nat
  | .hbm => 12
  | .vmem => 12
  | .smem => 2
  | _ => 0

abbrev bufTy : (tb : Table) → Fin (tcTables nBuf tb) → BufTy
  | .hbm, ⟨0, _⟩ => ⟨S2x8192x5120, .i8⟩
  | .hbm, ⟨1, _⟩ => ⟨S_, .i32⟩
  | .hbm, ⟨2, _⟩ => ⟨S5120x27648, .i8⟩
  | .hbm, ⟨3, _⟩ => ⟨S27648, .i32⟩
  | .hbm, ⟨4, _⟩ => ⟨S27648, .f32⟩
  | .hbm, ⟨5, _⟩ => ⟨S_, .i32⟩
  | .hbm, ⟨6, _⟩ => ⟨S1, .i32⟩
  | .hbm, ⟨7, _⟩ => ⟨S1, .i32⟩
  | .hbm, ⟨8, _⟩ => ⟨S16384x5120, .i8⟩
  | .hbm, ⟨9, _⟩ => ⟨S1x27648, .i32⟩
  | .hbm, ⟨10, _⟩ => ⟨S1x27648, .f32⟩
  | .hbm, ⟨11, _⟩ => ⟨S16384x27648, .i8⟩
  | .local _ .vmem, ⟨0, _⟩ => ⟨S1024x5120, .i8⟩
  | .local _ .vmem, ⟨1, _⟩ => ⟨S1024x5120, .i8⟩
  | .local _ .vmem, ⟨2, _⟩ => ⟨S5120x1024, .i8⟩
  | .local _ .vmem, ⟨3, _⟩ => ⟨S5120x1024, .i8⟩
  | .local _ .vmem, ⟨4, _⟩ => ⟨S1x1024, .i32⟩
  | .local _ .vmem, ⟨5, _⟩ => ⟨S1x1024, .i32⟩
  | .local _ .vmem, ⟨6, _⟩ => ⟨S1x1024, .f32⟩
  | .local _ .vmem, ⟨7, _⟩ => ⟨S1x1024, .f32⟩
  | .local _ .vmem, ⟨8, _⟩ => ⟨S1024x1024, .i8⟩
  | .local _ .vmem, ⟨9, _⟩ => ⟨S1024x1024, .i8⟩
  | .local _ .vmem, ⟨10, _⟩ => ⟨S5120x1024, .bf16⟩
  | .local _ .vmem, ⟨11, _⟩ => ⟨S1x1024, .i32⟩
  | .local _ .smem, ⟨0, _⟩ => ⟨S1, .i32⟩
  | .local _ .smem, ⟨1, _⟩ => ⟨S1, .i32⟩
  | _, _ => ⟨S2x8192x5120, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![27, 16], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_1 : BitVec 32 := 0#32
  let v8 : BitVec 1 := Scalar.cmpi .ne v7 c0_i32_1
  v8

@[reducible] def k0_t1_loop : Scf.Loop 32 :=
  let c0_i32_5 : BitVec 32 := 0#32
  let c20_i32 : BitVec 32 := 20#32
  let v11 : BitVec 32 := Scalar.addi c0_i32_5 c20_i32
  let c1_i32_6 : BitVec 32 := 1#32
  ⟨c0_i32_5, v11, c1_i32_6⟩
def k0_off1 (k0_t1 : Fin k0_t1_loop.trips) : Fin 2 → Nat :=
  let c0_i32_5 : BitVec 32 := 0#32
  let c1_i32_6 : BitVec 32 := 1#32
  let arg11 : BitVec 32 := Scf.iv c0_i32_5 c1_i32_6 k0_t1
  let c256_i32 : BitVec 32 := 256#32
  let v21 : BitVec 32 := Scalar.muli arg11 c256_i32
  let v22 : Index := Scalar.indexCast v21
  let c0_12 : Index := 0#32
  ![v22.toNat, 0]
@[reducible] def k0_t2_loop : Scf.Loop 32 :=
  let c0_i32_2 : BitVec 32 := 0#32
  let c4_i32 : BitVec 32 := 4#32
  let v9 : BitVec 32 := Scalar.addi c0_i32_2 c4_i32
  let c1_i32 : BitVec 32 := 1#32
  ⟨c0_i32_2, v9, c1_i32⟩
def k0_off2 (k0_t2 : Fin k0_t2_loop.trips) : Fin 2 → Nat :=
  let c0_i32_2 : BitVec 32 := 0#32
  let c1_i32 : BitVec 32 := 1#32
  let arg11 : BitVec 32 := Scf.iv c0_i32_2 c1_i32 k0_t2
  let c256_i32 : BitVec 32 := 256#32
  let v10 : BitVec 32 := Scalar.muli arg11 c256_i32
  let v12 : Index := Scalar.indexCast v10
  let c0_5 : Index := 0#32
  ![v12.toNat, 0]
def k0_off3 (k0_t2 : Fin k0_t2_loop.trips) : Fin 2 → Nat :=
  let c0_i32_2 : BitVec 32 := 0#32
  let c1_i32 : BitVec 32 := 1#32
  let arg11 : BitVec 32 := Scf.iv c0_i32_2 c1_i32 k0_t2
  let c256_i32 : BitVec 32 := 256#32
  let v10 : BitVec 32 := Scalar.muli arg11 c256_i32
  let v21 : Index := Scalar.indexCast v10
  let c1024 : Index := 1024#32
  ![v21.toNat, 1024]
def k0_off4 (k0_t2 : Fin k0_t2_loop.trips) : Fin 2 → Nat :=
  let c0_i32_2 : BitVec 32 := 0#32
  let c1_i32 : BitVec 32 := 1#32
  let arg11 : BitVec 32 := Scf.iv c0_i32_2 c1_i32 k0_t2
  let c256_i32 : BitVec 32 := 256#32
  let v10 : BitVec 32 := Scalar.muli arg11 c256_i32
  let v30 : Index := Scalar.indexCast v10
  let c2048 : Index := 2048#32
  ![v30.toNat, 2048]
def k0_off5 (k0_t2 : Fin k0_t2_loop.trips) : Fin 2 → Nat :=
  let c0_i32_2 : BitVec 32 := 0#32
  let c1_i32 : BitVec 32 := 1#32
  let arg11 : BitVec 32 := Scf.iv c0_i32_2 c1_i32 k0_t2
  let c256_i32 : BitVec 32 := 256#32
  let v10 : BitVec 32 := Scalar.muli arg11 c256_i32
  let v39 : Index := Scalar.indexCast v10
  let c3072 : Index := 3072#32
  ![v39.toNat, 3072]
def k0_off6 (k0_t2 : Fin k0_t2_loop.trips) : Fin 2 → Nat :=
  let c0_i32_2 : BitVec 32 := 0#32
  let c1_i32 : BitVec 32 := 1#32
  let arg11 : BitVec 32 := Scf.iv c0_i32_2 c1_i32 k0_t2
  let c256_i32 : BitVec 32 := 256#32
  let v10 : BitVec 32 := Scalar.muli arg11 c256_i32
  let v48 : Index := Scalar.indexCast v10
  let c4096 : Index := 4096#32
  ![v48.toNat, 4096]
def k0_off7 (k0_t2 : Fin k0_t2_loop.trips) : Fin 2 → Nat :=
  let c0_i32_2 : BitVec 32 := 0#32
  let c1_i32 : BitVec 32 := 1#32
  let arg11 : BitVec 32 := Scf.iv c0_i32_2 c1_i32 k0_t2
  let c256_i32 : BitVec 32 := 256#32
  let v10 : BitVec 32 := Scalar.muli arg11 c256_i32
  let v74 : Index := Scalar.indexCast v10
  let c0_24 : Index := 0#32
  ![v74.toNat, 0]
def k0_off8 (k0_t2 : Fin k0_t2_loop.trips) : Fin 2 → Nat :=
  let c0_i32_2 : BitVec 32 := 0#32
  let c1_i32 : BitVec 32 := 1#32
  let arg11 : BitVec 32 := Scf.iv c0_i32_2 c1_i32 k0_t2
  let c256_i32 : BitVec 32 := 256#32
  let v10 : BitVec 32 := Scalar.muli arg11 c256_i32
  let v139 : Index := Scalar.indexCast v10
  let c512_49 : Index := 512#32
  ![v139.toNat, 512]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x5120 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S5120x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S2x8192x5120 : Shape := ⟨3, ![2, 8192, 5120]⟩
abbrev S_ : Shape := ⟨0, ![]⟩
abbrev S5120x27648 : Shape := ⟨2, ![5120, 27648]⟩
abbrev S27648 : Shape := ⟨1, ![27648]⟩
abbrev S2x8192x5120x1 : Shape := ⟨4, ![2, 8192, 5120, 1]⟩
abbrev S1x1x5120x27648 : Shape := ⟨4, ![1, 1, 5120, 27648]⟩
abbrev S2x8192x5120x27648 : Shape := ⟨4, ![2, 8192, 5120, 27648]⟩
abbrev S2x8192x27648 : Shape := ⟨3, ![2, 8192, 27648]⟩
abbrev S1x1x27648 : Shape := ⟨3, ![1, 1, 27648]⟩
abbrev S16384x27648 : Shape := ⟨2, ![16384, 27648]⟩

abbrev nBuf : Space → Nat
  | .hbm => 43
  | .vmem => 0
  | .smem => 0
  | _ => 0

abbrev bufTy : (tb : Table) → Fin (tcTables nBuf tb) → BufTy
  | .hbm, ⟨0, _⟩ => ⟨S2x8192x5120, .i8⟩
  | .hbm, ⟨1, _⟩ => ⟨S_, .i32⟩
  | .hbm, ⟨2, _⟩ => ⟨S5120x27648, .i8⟩
  | .hbm, ⟨3, _⟩ => ⟨S27648, .i32⟩
  | .hbm, ⟨4, _⟩ => ⟨S27648, .f32⟩
  | .hbm, ⟨5, _⟩ => ⟨S_, .i32⟩
  | .hbm, ⟨6, _⟩ => ⟨S5120x27648, .i32⟩
  | .hbm, ⟨7, _⟩ => ⟨S_, .i32⟩
  | .hbm, ⟨8, _⟩ => ⟨S27648, .i32⟩
  | .hbm, ⟨9, _⟩ => ⟨S2x8192x5120, .i32⟩
  | .hbm, ⟨10, _⟩ => ⟨S2x8192x5120x1, .i32⟩
  | .hbm, ⟨11, _⟩ => ⟨S1x1x5120x27648, .i32⟩
  | .hbm, ⟨12, _⟩ => ⟨S2x8192x5120x27648, .i32⟩
  | .hbm, ⟨13, _⟩ => ⟨S2x8192x5120x27648, .i32⟩
  | .hbm, ⟨14, _⟩ => ⟨S2x8192x5120x27648, .i32⟩
  | .hbm, ⟨15, _⟩ => ⟨S_, .i32⟩
  | .hbm, ⟨16, _⟩ => ⟨S2x8192x27648, .i32⟩
  | .hbm, ⟨17, _⟩ => ⟨S27648, .i32⟩
  | .hbm, ⟨18, _⟩ => ⟨S27648, .i32⟩
  | .hbm, ⟨19, _⟩ => ⟨S27648, .i32⟩
  | .hbm, ⟨20, _⟩ => ⟨S1x1x27648, .i32⟩
  | .hbm, ⟨21, _⟩ => ⟨S2x8192x27648, .i32⟩
  | .hbm, ⟨22, _⟩ => ⟨S2x8192x27648, .i32⟩
  | .hbm, ⟨23, _⟩ => ⟨S_, .i32⟩
  | .hbm, ⟨24, _⟩ => ⟨S_, .i32⟩
  | .hbm, ⟨25, _⟩ => ⟨S_, .f32⟩
  | .hbm, ⟨26, _⟩ => ⟨S_, .i32⟩
  | .hbm, ⟨27, _⟩ => ⟨S_, .i32⟩
  | .hbm, ⟨28, _⟩ => ⟨S_, .f32⟩
  | .hbm, ⟨29, _⟩ => ⟨S2x8192x27648, .f32⟩
  | .hbm, ⟨30, _⟩ => ⟨S1x1x27648, .f32⟩
  | .hbm, ⟨31, _⟩ => ⟨S2x8192x27648, .f32⟩
  | .hbm, ⟨32, _⟩ => ⟨S2x8192x27648, .f32⟩
  | .hbm, ⟨33, _⟩ => ⟨S2x8192x27648, .f32⟩
  | .hbm, ⟨34, _⟩ => ⟨S2x8192x27648, .f32⟩
  | .hbm, ⟨35, _⟩ => ⟨S2x8192x27648, .f32⟩
  | .hbm, ⟨36, _⟩ => ⟨S2x8192x27648, .f32⟩
  | .hbm, ⟨37, _⟩ => ⟨S2x8192x27648, .f32⟩
  | .hbm, ⟨38, _⟩ => ⟨S2x8192x27648, .i32⟩
  | .hbm, ⟨39, _⟩ => ⟨S2x8192x27648, .i32⟩
  | .hbm, ⟨40, _⟩ => ⟨S2x8192x27648, .i32⟩
  | .hbm, ⟨41, _⟩ => ⟨S2x8192x27648, .i8⟩
  | .hbm, ⟨42, _⟩ => ⟨S16384x27648, .i8⟩
  | _, _ => ⟨S2x8192x5120, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Proof.Trips.lean ====
/-
  What the kernel's two counted loops write, as explicit lists of pieces. The weight loop (20 trips of 256 rows) converts
  the weight block into the bf16 scratch and carries the column sums; the row loop (4 trips of 256 rows) writes the
  output block as two tiles per trip. The lists the generated loop invariants name are read here as functions of the
  block contents alone.
-/
module

public import proofs.«01_k».proof.Proof.Gen.KernelIdeal.Frame.Runs
public import Idealize.ShloMosaic.Lib.Tactic
public import Idealize.ShloMosaic.Lib.Pipeline.ReadBack

@[expose] public section

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]

/-- The 256 weight rows of trip `k` of the weight loop. -/
def wrow (k : Fin k0_t1_loop.trips) : Rect S5120x1024 :=
  Rect.unit (k0_off1 k) S256x1024.size (by rw [k0_off1_eq]; have hk := k.isLt; have : k0_t1_loop.trips = 20 := by decide +kernel
                                           intro a; fin_cases a <;> simp [S256x1024, S5120x1024] <;> omega)

/-- The column sums carried into trip `n` of the weight loop. -/
def carry (x3 : Vec F S5120x1024 .i8) : ℕ → IVec S1x1024 32
  | 0 => k0_pay3
  | k + 1 => if h : k < k0_t1_loop.trips then k0_pay5 (F := F) (carry x3 k) (View.ld x3 (wrow ⟨k, h⟩)) else carry x3 k

/-- The pieces of the bf16 scratch written before trip `n` of the weight loop (last first). -/
def wpieces (x3 : Vec F S5120x1024 .i8) : ℕ → List (View.Piece (Elt F) S5120x1024 .bf16)
  | 0 => []
  | k + 1 => if h : k < k0_t1_loop.trips then ⟨wrow ⟨k, h⟩, k0_pay4 (View.ld x3 (wrow ⟨k, h⟩))⟩ :: wpieces x3 k else wpieces x3 k

/-- The left output tile (columns 0–511) of trip `k` of the row loop. -/
def tileL (v1 : Elt F .i32) (x2 : Vec F S1024x5120 .i8) (x5 : Vec F S1x1024 .f32) (s0 : Vec F S5120x1024 .bf16) (s1 : Vec F S1x1024 .i32)
    (k : Fin k0_t2_loop.trips) : IVec S256x512 8 :=
  k0_pay9 v1 (k0_pay1 v1) (k0_pay2 v1)
    (k0_pay8 (View.ld x2 (Rect.unit (k0_off2 k) S256x1024.size (k0_off2_inb k))) (View.ld s0 (Rect.unit ![0, 0] S1024x512.size inb_S5120x1024_S1024x512_0_0))
      (View.ld x2 (Rect.unit (k0_off3 k) S256x1024.size (k0_off3_inb k))) (View.ld s0 (Rect.unit ![1024, 0] S1024x512.size inb_S5120x1024_S1024x512_1024_0))
      (View.ld x2 (Rect.unit (k0_off4 k) S256x1024.size (k0_off4_inb k))) (View.ld s0 (Rect.unit ![2048, 0] S1024x512.size inb_S5120x1024_S1024x512_2048_0))
      (View.ld x2 (Rect.unit (k0_off5 k) S256x1024.size (k0_off5_inb k))) (View.ld s0 (Rect.unit ![3072, 0] S1024x512.size inb_S5120x1024_S1024x512_3072_0)))
    (View.ld x2 (Rect.unit (k0_off6 k) S256x1024.size (k0_off6_inb k))) (View.ld s0 (Rect.unit ![4096, 0] S1024x512.size inb_S5120x1024_S1024x512_4096_0))
    (View.ld s1 (Rect.unit ![0, 0] S1x512.size inb_S1x1024_S1x512_0_0)) (View.ld x5 (Rect.unit ![0, 0] S1x512.size inb_S1x1024_S1x512_0_0))

/-- The right output tile (columns 512–1023) of trip `k` of the row loop. -/
def tileR (v1 : Elt F .i32) (x2 : Vec F S1024x5120 .i8) (x5 : Vec F S1x1024 .f32) (s0 : Vec F S5120x1024 .bf16) (s1 : Vec F S1x1024 .i32)
    (k : Fin k0_t2_loop.trips) : IVec S256x512 8 :=
  k0_pay7 v1 (k0_pay12 (k0_pay1 v1) (k0_pay2 v1)
    (k0_pay10 (View.ld x2 (Rect.unit (k0_off2 k) S256x1024.size (k0_off2_inb k))) (View.ld s0 (Rect.unit ![0, 512] S1024x512.size inb_S5120x1024_S1024x512_0_512)))
    (k0_pay11 (View.ld x2 (Rect.unit (k0_off3 k) S256x1024.size (k0_off3_inb k))) (View.ld s0 (Rect.unit ![1024, 512] S1024x512.size inb_S5120x1024_S1024x512_1024_512)))
    (View.ld x2 (Rect.unit (k0_off4 k) S256x1024.size (k0_off4_inb k))) (View.ld s0 (Rect.unit ![2048, 512] S1024x512.size inb_S5120x1024_S1024x512_2048_512))
    (View.ld x2 (Rect.unit (k0_off5 k) S256x1024.size (k0_off5_inb k))) (View.ld s0 (Rect.unit ![3072, 512] S1024x512.size inb_S5120x1024_S1024x512_3072_512))
    (View.ld x2 (Rect.unit (k0_off6 k) S256x1024.size (k0_off6_inb k))) (View.ld s0 (Rect.unit ![4096, 512] S1024x512.size inb_S5120x1024_S1024x512_4096_512))
    (View.ld s1 (Rect.unit ![0, 512] S1x512.size inb_S1x1024_S1x512_0_512)) (View.ld x5 (Rect.unit ![0, 512] S1x512.size inb_S1x1024_S1x512_0_512)))

/-- The pieces of the output block written before trip `n` of the row loop (last first). -/
def opieces (v1 : Elt F .i32) (x2 : Vec F S1024x5120 .i8) (x5 : Vec F S1x1024 .f32) (s0 : Vec F S5120x1024 .bf16) (s1 : Vec F S1x1024 .i32) :
    ℕ → List (View.Piece (Elt F) S1024x1024 .i8)
  | 0 => []
  | k + 1 => if h : k < k0_t2_loop.trips then
      ⟨Rect.unit (k0_off8 ⟨k, h⟩) S256x512.size (k0_off8_inb ⟨k, h⟩), tileR v1 x2 x5 s0 s1 ⟨k, h⟩⟩
        :: ⟨Rect.unit (k0_off7 ⟨k, h⟩) S256x512.size (k0_off7_inb ⟨k, h⟩), tileL v1 x2 x5 s0 s1 ⟨k, h⟩⟩ :: opieces v1 x2 x5 s0 s1 k
    else opieces v1 x2 x5 s0 s1 k

section Loops

variable (𝒱 : Variants) (c : Dev nD) (bd : Option 𝒱.V) (i : grid0.Coords) (arg2 : Memref sig .tc .smem S1 .i32) (harg2 : arg2.IsWhole) (arg3 : Memref sig .tc .smem S1 .i32) (harg3 : arg3.IsWhole)
  (arg4 : Memref sig .tc .vmem S1024x5120 .i8) (harg4 : arg4.IsWhole) (arg5 : Memref sig .tc .vmem S5120x1024 .i8) (harg5 : arg5.IsWhole) (arg6 : Memref sig .tc .vmem S1x1024 .i32) (harg6 : arg6.IsWhole)
  (arg7 : Memref sig .tc .vmem S1x1024 .f32) (harg7 : arg7.IsWhole) (arg8 : Memref sig .tc .vmem S1024x1024 .i8) (harg8 : arg8.IsWhole) (arg9 : Memref sig .tc .vmem S5120x1024 .bf16) (harg9 : arg9.IsWhole)
  (arg10 : Memref sig .tc .vmem S1x1024 .i32) (harg10 : arg10.IsWhole)

/-- One trip of the weight loop adds the trip's column sums to the carried value. -/
theorem tripR_t1_eq (k0_h1 : k0_cond1 i = 1#1) (X5 : BufTy.Contents (Elt F) arg5.view.ty) (k : Fin k0_t1_loop.trips) (acc : IVec S1x1024 32) :
    tripR_k0_t1 (F := F) 𝒱 c bd i arg2 harg2 arg3 harg3 arg4 harg4 arg5 harg5 arg6 harg6 arg7 harg7 arg8 harg8 arg9 harg9 arg10 harg10 k0_h1 X5 k acc = k0_pay5 (F := F) acc (View.ld (arg5.view.read (Elt F) X5) (wrow k)) := by
  unfold tripR_k0_t1 trip_k0_t1; rfl

/-- One trip of the weight loop writes the 256 converted weight rows. -/
theorem tripL_t1_eq (k0_h1 : k0_cond1 i = 1#1) (X5 : BufTy.Contents (Elt F) arg5.view.ty) (k : Fin k0_t1_loop.trips) (acc : IVec S1x1024 32) :
    tripL_k0_t1 (F := F) 𝒱 c bd i arg2 harg2 arg3 harg3 arg4 harg4 arg5 harg5 arg6 harg6 arg7 harg7 arg8 harg8 arg9 harg9 arg10 harg10 k0_h1 X5 k acc = [⟨wrow k, k0_pay4 (View.ld (arg5.view.read (Elt F) X5) (wrow k))⟩] := by
  unfold tripL_k0_t1 trip_k0_t1; rfl

/-- One trip of the row loop writes the right tile over the left tile. -/
theorem tripL_t2_eq (v1 : Elt F .i32) (X4 : BufTy.Contents (Elt F) arg4.view.ty) (X7 : BufTy.Contents (Elt F) arg7.view.ty)
    (X9 : BufTy.Contents (Elt F) arg9.view.ty) (X10 : BufTy.Contents (Elt F) arg10.view.ty) (k : Fin k0_t2_loop.trips) :
    tripL_k0_t2 (F := F) 𝒱 c bd i arg2 harg2 arg3 harg3 arg4 harg4 arg5 harg5 arg6 harg6 arg7 harg7 arg8 harg8 arg9 harg9 arg10 harg10 v1 X4 X7 X9 X10 k
      = [⟨Rect.unit (k0_off8 k) S256x512.size (k0_off8_inb k), tileR v1 (arg4.view.read (Elt F) X4) (arg7.view.read (Elt F) X7) (arg9.view.read (Elt F) X9) (arg10.view.read (Elt F) X10) k⟩,
         ⟨Rect.unit (k0_off7 k) S256x512.size (k0_off7_inb k), tileL v1 (arg4.view.read (Elt F) X4) (arg7.view.read (Elt F) X7) (arg9.view.read (Elt F) X9) (arg10.view.read (Elt F) X10) k⟩] := by
  unfold tripL_k0_t2 trip_k0_t2; rfl

/-- The state of the weight loop before trip `n`: the carried sums and the pieces written, of the weight block alone. -/
theorem st_t1_eq (k0_h1 : k0_cond1 i = 1#1) (X5 : BufTy.Contents (Elt F) arg5.view.ty) (n : ℕ) :
    st_k0_t1 (F := F) 𝒱 c bd i arg2 harg2 arg3 harg3 arg4 harg4 arg5 harg5 arg6 harg6 arg7 harg7 arg8 harg8 arg9 harg9 arg10 harg10 k0_h1 X5 k0_pay3 n = (carry (arg5.view.read (Elt F) X5) n, wpieces (arg5.view.read (Elt F) X5) n) := by
  induction n with
  | zero => rfl
  | succ n ih =>
    by_cases h : n < k0_t1_loop.trips
    · rw [show n + 1 = (⟨n, h⟩ : Fin k0_t1_loop.trips).val + 1 from rfl, st_k0_t1_succ, ih, tripR_t1_eq, tripL_t1_eq]
      simp only [carry, wpieces, dif_pos h, List.singleton_append]
    · rw [st_k0_t1.eq_2]; unfold st_k0_t1Step; rw [dif_neg h, ih]
      simp only [carry, wpieces, dif_neg h]

/-- The pieces of the row loop before trip `n`, of the blocks and scratch contents alone. -/
theorem pb_t2_eq (v1 : Elt F .i32) (X4 : BufTy.Contents (Elt F) arg4.view.ty) (X7 : BufTy.Contents (Elt F) arg7.view.ty)
    (X9 : BufTy.Contents (Elt F) arg9.view.ty) (X10 : BufTy.Contents (Elt F) arg10.view.ty) (n : ℕ) :
    pb_k0_t2 (F := F) 𝒱 c bd i arg2 harg2 arg3 harg3 arg4 harg4 arg5 harg5 arg6 harg6 arg7 harg7 arg8 harg8 arg9 harg9 arg10 harg10 v1 X4 X7 X9 X10 n
      = opieces v1 (arg4.view.read (Elt F) X4) (arg7.view.read (Elt F) X7) (arg9.view.read (Elt F) X9) (arg10.view.read (Elt F) X10) n := by
  induction n with
  | zero => rfl
  | succ n ih =>
    by_cases h : n < k0_t2_loop.trips
    · rw [show n + 1 = (⟨n, h⟩ : Fin k0_t2_loop.trips).val + 1 from rfl, pb_k0_t2_succ, ih, tripL_t2_eq]
      simp only [opieces, dif_pos h, List.cons_append, List.nil_append]
    · rw [pb_k0_t2.eq_2]; unfold pb_k0_t2Step; rw [dif_neg h, ih]
      simp only [opieces, dif_neg h]

end Loops

end Cert.KernelIdeal.Hand

end
-- ==== Proof.Body.lean ====
/-
  The kernel's body at one grid point, in both cases of its conditional: at the first point of a column the weight loop
  fills the two scratch buffers, at the others they hold what the column's first point left; the row loop then writes the
  whole output block. The contents left are closed forms of the blocks alone.
-/
module

public import proofs.«01_k».proof.Proof.Trips

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The bf16 scratch after the weight loop, of the weight block. -/
def S0 (x3 : Vec F S5120x1024 .i8) : Vec F S5120x1024 .bf16 := View.canon (wpieces x3 k0_t1_loop.trips)

/-- The offset scratch after the weight loop: `bias − x_zp · (column sums)`. -/
def S1' (v0 : Elt F .i32) (x3 : Vec F S5120x1024 .i8) (x4 : Vec F S1x1024 .i32) : Vec F S1x1024 .i32 :=
  k0_pay6 (F := F) v0 (carry x3 k0_t1_loop.trips) x4

/-- The output block after the row loop, of the blocks and the scratch contents. -/
def out6 (v1 : Elt F .i32) (x2 : Vec F S1024x5120 .i8) (x5 : Vec F S1x1024 .f32) (s0 : Vec F S5120x1024 .bf16) (s1 : Vec F S1x1024 .i32) :
    Vec F S1024x1024 .i8 := View.canon (opieces v1 x2 x5 s0 s1 k0_t2_loop.trips)

/-- The one index of a one-element vector. -/
def zidx : S1.Idx := fun a => ⟨0, by fin_cases a; decide⟩

/-- The weight loop's pieces cover the scratch. -/
theorem wcover (x3 : Vec F S5120x1024 .i8) (y : S5120x1024.Idx) : ∃ pc ∈ wpieces x3 k0_t1_loop.trips, y ∈ pc.1.set :=
  View.cover_of_tiledL (wpieces x3 k0_t1_loop.trips) S256x1024.size (by sl_kernel_rfl) y

/-- The row loop's pieces cover the output block. -/
theorem ocover (v1 : Elt F .i32) (x2 : Vec F S1024x5120 .i8) (x5 : Vec F S1x1024 .f32) (s0 : Vec F S5120x1024 .bf16) (s1 : Vec F S1x1024 .i32)
    (y : S1024x1024.Idx) : ∃ pc ∈ opieces v1 x2 x5 s0 s1 k0_t2_loop.trips, y ∈ pc.1.set :=
  View.cover_of_tiledL (opieces v1 x2 x5 s0 s1 k0_t2_loop.trips) S256x512.size (by sl_kernel_rfl) y

/-- A one-element vector has an element. -/
theorem hS1 : 0 < S1.numel := by decide

/-- Any two indices of a one-element vector are the same. -/
theorem zidx_eq (x : S1.Idx) : x = zidx := funext fun a => Fin.ext (by
  have h := (x a).isLt
  have h1 : S1.size a = 1 := by fin_cases a; rfl
  have h2 : (zidx a).val = 0 := rfl
  omega)

/-- A word loaded from a one-element buffer is its one element. -/
theorem word_eq (M : Memref sig .tc .smem S1 .i32) (hM : M.IsWhole) (x : Vec F S1 .i32) (r : Rect S1) (z : r.toLoadRect.shape.Idx) :
    M.view.readAt (Elt F) r.toLoadRect (hM.unread x) z = x zidx := by
  have h : M.view.readAt (Elt F) r.toLoadRect (hM.unread x) z = M.view.read (Elt F) (hM.unread x) (r.idx z) := rfl
  rw [h, hM.read_unread, zidx_eq (r.idx z)]

/-- A load of a whole buffer reads its contents. -/
theorem whole_eq (M : Memref sig .tc .vmem S1x1024 .i32) (hM : M.IsWhole) (x : Vec F S1x1024 .i32) :
    M.view.readAt (Elt F) (Rect.unit ![0, 0] S1x1024.size inb_S1x1024_S1x1024_0_0).toLoadRect (hM.unread x) = x := by
  rw [View.readAt_eq_ld, hM.read_unread]
  exact View.ld_unit_lit _ x (fun a => by fin_cases a <;> rfl)

/-- A store of a whole buffer leaves its payload. -/
theorem whole_store (M : Memref sig .tc .vmem S1x1024 .i32) (f : M.view.ty.Contents (Elt F)) (w : Vec F S1x1024 .i32) :
    M.view.read (Elt F) (M.view.writes (Elt F) f [⟨Rect.unit ![0, 0] S1x1024.size inb_S1x1024_S1x1024_0_0, w⟩]) = w := by
  rw [View.read_writes_eq_canon _ _ _ (View.cover_of_tiledL _ S1x1024.size (by sl_kernel_rfl))]
  exact View.canon_cons_unit_lit _ w [] (fun a => by fin_cases a <;> rfl)

/-- What the row loop leaves in the output block, of the contents of what it reads. -/
theorem out_eq (c : Dev nD) (i : grid0.Coords) (arg2 : Memref sig .tc .smem S1 .i32) (harg2 : arg2.IsWhole) (arg3 : Memref sig .tc .smem S1 .i32) (harg3 : arg3.IsWhole)
    (arg4 : Memref sig .tc .vmem S1024x5120 .i8) (harg4 : arg4.IsWhole) (arg5 : Memref sig .tc .vmem S5120x1024 .i8) (harg5 : arg5.IsWhole) (arg6 : Memref sig .tc .vmem S1x1024 .i32) (harg6 : arg6.IsWhole)
    (arg7 : Memref sig .tc .vmem S1x1024 .f32) (harg7 : arg7.IsWhole) (arg8 : Memref sig .tc .vmem S1024x1024 .i8) (harg8 : arg8.IsWhole) (arg9 : Memref sig .tc .vmem S5120x1024 .bf16) (harg9 : arg9.IsWhole)
    (arg10 : Memref sig .tc .vmem S1x1024 .i32) (harg10 : arg10.IsWhole)
    (v1 : Elt F .i32) (x2 : Vec F S1024x5120 .i8) (x5 : Vec F S1x1024 .f32) (s0 : Vec F S5120x1024 .bf16) (s1 : Vec F S1x1024 .i32)
    (X9 : BufTy.Contents (Elt F) arg9.view.ty) (X10 : BufTy.Contents (Elt F) arg10.view.ty) (f : BufTy.Contents (Elt F) arg8.view.ty)
    (h9 : arg9.view.read (Elt F) X9 = s0) (h10 : arg10.view.read (Elt F) X10 = s1) :
    arg8.view.read (Elt F) (arg8.view.writes (Elt F) f (pb_k0_t2 (F := F) Variants.none c none i arg2 harg2 arg3 harg3 arg4 harg4 arg5 harg5 arg6 harg6 arg7 harg7 arg8 harg8 arg9 harg9 arg10 harg10 v1 (harg4.unread x2) (harg7.unread x5) X9 X10 k0_t2_loop.trips))
      = out6 v1 x2 x5 s0 s1 := by
  rw [pb_t2_eq, harg4.read_unread, harg7.read_unread, h9, h10]
  exact View.read_writes_eq_canon _ _ _ (ocover v1 x2 x5 s0 s1)

/-- The body at a column's first point. -/
theorem run_A (c : Dev nD) (i : grid0.Coords) (arg2 : Memref sig .tc .smem S1 .i32) (harg2 : arg2.IsWhole) (arg3 : Memref sig .tc .smem S1 .i32) (harg3 : arg3.IsWhole)
    (arg4 : Memref sig .tc .vmem S1024x5120 .i8) (harg4 : arg4.IsWhole) (arg5 : Memref sig .tc .vmem S5120x1024 .i8) (harg5 : arg5.IsWhole) (arg6 : Memref sig .tc .vmem S1x1024 .i32) (harg6 : arg6.IsWhole)
    (arg7 : Memref sig .tc .vmem S1x1024 .f32) (harg7 : arg7.IsWhole) (arg8 : Memref sig .tc .vmem S1024x1024 .i8) (harg8 : arg8.IsWhole) (arg9 : Memref sig .tc .vmem S5120x1024 .bf16) (harg9 : arg9.IsWhole)
    (arg10 : Memref sig .tc .vmem S1x1024 .i32) (harg10 : arg10.IsWhole) (hc0 : cond0_0 i)
    (x0 : Vec F S1 .i32) (x1 : Vec F S1 .i32) (x2 : Vec F S1024x5120 .i8) (x3 : Vec F S5120x1024 .i8) (x4 : Vec F S1x1024 .i32) (x5 : Vec F S1x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
              ∗ owns (c : Thread nD τ) arg8 fullShare (out6 (x1 zidx) x2 x5 (S0 x3) (S1' (x0 zidx) x3 x4)) ∗ owns (c : Thread nD τ) arg9 fullShare (S0 x3) ∗ owns (c : Thread nD τ) arg10 fullShare (S1' (x0 zidx) x3 x4)) -∗ K ⟨⟩))
          ⊢ wp frame (wpE (defs₀ (F := F)) Variants.none c none) E (cc0_qs8_linear i arg2 harg2 arg3 harg3 arg4 harg4 arg5 harg5 arg6 harg6 arg7 harg7 arg8 harg8 arg9 harg9 arg10 harg10) K := by
    simp only [cc0_qs8_linear_eq_skeleton]; unfold cc0_qs8_linear_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    have e9 : arg9.view.read (Elt F) (arg9.view.writes (Elt F) fs0 (st_k0_t1 (F := F) Variants.none c none i arg2 harg2 arg3 harg3 arg4 harg4 arg5 harg5 arg6 harg6 arg7 harg7 arg8 harg8 arg9 harg9 arg10 harg10 hc0 (harg5.unread x3) k0_pay3 k0_t1_loop.trips).2) = S0 x3 := by
      rw [st_t1_eq, harg5.read_unread]
      exact View.read_writes_eq_canon _ _ _ (wcover x3)
    have e10 : arg10.view.read (Elt F) (arg10.view.writes (Elt F) arg10.view.junk [⟨Rect.unit ![0, 0] S1x1024.size inb_S1x1024_S1x1024_0_0,
        k0_pay6 (F := F) (View.readAt (Elt F) arg2.view (Rect.unit ![0] S1.size inb_S1_S1_0).toLoadRect (harg2.unread x0) (Shape.Idx.first hS1))
          (st_k0_t1 (F := F) Variants.none c none i arg2 harg2 arg3 harg3 arg4 harg4 arg5 harg5 arg6 harg6 arg7 harg7 arg8 harg8 arg9 harg9 arg10 harg10 hc0 (harg5.unread x3) k0_pay3 k0_t1_loop.trips).1
          (View.readAt (Elt F) arg6.view (Rect.unit ![0, 0] S1x1024.size inb_S1x1024_S1x1024_0_0).toLoadRect (harg6.unread x4))⟩]) = S1' (x0 zidx) x3 x4 := by
      rw [st_t1_eq, harg5.read_unread, whole_eq, word_eq]
      exact whole_store _ _ _
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      have ev : View.readAt (Elt F) arg3.view (Rect.unit ![0] S1.size inb_S1_S1_0).toLoadRect (harg3.unread x1) (Shape.Idx.first hS1) = x1 zidx := word_eq _ _ _ _ _
      rw [← ev]
      exact out_eq c i arg2 harg2 arg3 harg3 arg4 harg4 arg5 harg5 arg6 harg6 arg7 harg7 arg8 harg8 arg9 harg9 arg10 harg10 _ x2 x5 _ _ _ _ f6 e9 e10
    isplitl [HS0]
    · iexists _; isplitr; swap; · iexact HS0
      ipureintro; exact e9
    iexists _; isplitr; swap; · iexact HS1
    ipureintro; exact e10

/-- The body at the other points of a column. -/
theorem run_B (c : Dev nD) (i : grid0.Coords) (arg2 : Memref sig .tc .smem S1 .i32) (harg2 : arg2.IsWhole) (arg3 : Memref sig .tc .smem S1 .i32) (harg3 : arg3.IsWhole)
    (arg4 : Memref sig .tc .vmem S1024x5120 .i8) (harg4 : arg4.IsWhole) (arg5 : Memref sig .tc .vmem S5120x1024 .i8) (harg5 : arg5.IsWhole) (arg6 : Memref sig .tc .vmem S1x1024 .i32) (harg6 : arg6.IsWhole)
    (arg7 : Memref sig .tc .vmem S1x1024 .f32) (harg7 : arg7.IsWhole) (arg8 : Memref sig .tc .vmem S1024x1024 .i8) (harg8 : arg8.IsWhole) (arg9 : Memref sig .tc .vmem S5120x1024 .bf16) (harg9 : arg9.IsWhole)
    (arg10 : Memref sig .tc .vmem S1x1024 .i32) (harg10 : arg10.IsWhole) (hc0 : ¬cond0_0 i)
    (x0 : Vec F S1 .i32) (x1 : Vec F S1 .i32) (x2 : Vec F S1024x5120 .i8) (x3 : Vec F S5120x1024 .i8) (x4 : Vec F S1x1024 .i32) (x5 : Vec F S1x1024 .f32) (s0 : Vec F S5120x1024 .bf16) (s1 : Vec F S1x1024 .i32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare s0 ∗ owns (c : Thread nD τ) arg10 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
              ∗ owns (c : Thread nD τ) arg8 fullShare (out6 (x1 zidx) x2 x5 s0 s1) ∗ owns (c : Thread nD τ) arg9 fullShare s0 ∗ owns (c : Thread nD τ) arg10 fullShare s1) -∗ K ⟨⟩))
          ⊢ wp frame (wpE (defs₀ (F := F)) Variants.none c none) E (cc0_qs8_linear i arg2 harg2 arg3 harg3 arg4 harg4 arg5 harg5 arg6 harg6 arg7 harg7 arg8 harg8 arg9 harg9 arg10 harg10) K := by
    simp only [cc0_qs8_linear_eq_skeleton]; unfold cc0_qs8_linear_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hs0, HS0⟩, ⟨%fs1, %hs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hs0; obtain rfl := harg10.eq_unread hs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      have ev : View.readAt (Elt F) arg3.view (Rect.unit ![0] S1.size inb_S1_S1_0).toLoadRect (harg3.unread x1) (Shape.Idx.first hS1) = x1 zidx := word_eq _ _ _ _ _
      rw [← ev]
      exact out_eq c i arg2 harg2 arg3 harg3 arg4 harg4 arg5 harg5 arg6 harg6 arg7 harg7 arg8 harg8 arg9 harg9 arg10 harg10 _ x2 x5 _ _ _ _ f6 (harg9.read_unread _) (harg10.read_unread _)
    isplitl [HS0]
    · iexists _; isplitr; swap; · iexact HS0
      ipureintro; exact harg9.read_unread _
    iexists _; isplitr; swap; · iexact HS1
    ipureintro; exact harg10.read_unread _

end Cert.KernelIdeal.Hand

end
-- ==== Proof.HandFrame.lean ====
/-
  The frame of the idealized kernel: its pipeline's proof data with every buffer's contents in closed form, the body
  obligation from the two runs of the body, and the run of @main.
-/
module

public import proofs.«01_k».proof.Proof.Body
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks, index by index -/

/-- Which block each window is at, decided over the grid: with `t = 16·n + m`, rows `m` of the activations, columns `n`
    of the weights, the bias and the scale, and block `(m, n)` of the output. -/
theorem idx_facts : ∀ t : Fin cfg0.N, win0_0.index t (0 : Fin 1) = 0 ∧ win0_1.index t (0 : Fin 1) = 0
    ∧ win0_2.index t (0 : Fin 2) = t.val % 16 ∧ win0_2.index t (1 : Fin 2) = 0
    ∧ win0_3.index t (0 : Fin 2) = 0 ∧ win0_3.index t (1 : Fin 2) = t.val / 16
    ∧ win0_4.index t (0 : Fin 2) = 0 ∧ win0_4.index t (1 : Fin 2) = t.val / 16
    ∧ win0_5.index t (0 : Fin 2) = 0 ∧ win0_5.index t (1 : Fin 2) = t.val / 16
    ∧ win0_6.index t (0 : Fin 2) = t.val % 16 ∧ win0_6.index t (1 : Fin 2) = t.val / 16 :=
  (by decide +kernel : ∀ t : Fin grid0.N, _)

/-- Window 0's block is its array. -/
theorem iblk0_apply (c : Dev nD) (t : Fin cfg0.N) (y : S1.Idx) :
    (iblk m c 0 t : Vec F S1 .i32) y = (V m c main_v0 : S1.Idx → BitVec 32) y := by
  show V m c (Pipeline.arrRef spec0 0) (((cfg0.win 0).blk t).view.emb y) = V m c (Pipeline.arrRef spec0 0) y
  refine congrArg _ ((zidx_eq _).trans (zidx_eq _).symm)

/-- Window 1's block is its array. -/
theorem iblk1_apply (c : Dev nD) (t : Fin cfg0.N) (y : S1.Idx) :
    (iblk m c 1 t : Vec F S1 .i32) y = (V m c main_v1 : S1.Idx → BitVec 32) y := by
  show V m c (Pipeline.arrRef spec0 1) (((cfg0.win 1).blk t).view.emb y) = V m c (Pipeline.arrRef spec0 1) y
  refine congrArg _ ((zidx_eq _).trans (zidx_eq _).symm)

/-- Window 2's block at `y` is its array at the index with these coordinates. -/
theorem iblk2_apply (c : Dev nD) (t : Fin cfg0.N) (y : S1024x5120.Idx) (j : S16384x5120.Idx) (h0 : (j 0).val = t.val % 16 * 1024 + (y 0).val) (h1 : (j 1).val = (y 1).val) :
    (iblk m c 2 t : Vec F S1024x5120 .i8) y = (V m c main_v2 : S16384x5120.Idx → BitVec 8) j := by
  show V m c (Pipeline.arrRef spec0 2) (((cfg0.win 2).blk t).view.emb y) = V m c (Pipeline.arrRef spec0 2) j
  have hb0 : (((cfg0.win 2).blk t).view.emb y 0).val = win0_2.index t (0 : Fin 2) * 1024 + 1 * (y 0).val := rfl
  have hb1 : (((cfg0.win 2).blk t).view.emb y 1).val = win0_2.index t (1 : Fin 2) * 5120 + 1 * (y 1).val := rfl
  obtain ⟨-, -, e20, e21, e30, e31, e40, e41, e50, e51, -, -⟩ := idx_facts t
  refine congrArg _ (funext fun a => Fin.ext ?_)
  match a with
  | ⟨0, _⟩ => show (((cfg0.win 2).blk t).view.emb y 0).val = (j 0).val; rw [hb0, h0, e20]; omega
  | ⟨1, _⟩ => show (((cfg0.win 2).blk t).view.emb y 1).val = (j 1).val; rw [hb1, h1, e21]; omega

/-- Window 3's block at `y` is its array at the index with these coordinates. -/
theorem iblk3_apply (c : Dev nD) (t : Fin cfg0.N) (y : S5120x1024.Idx) (j : S5120x27648.Idx) (h0 : (j 0).val = (y 0).val) (h1 : (j 1).val = t.val / 16 * 1024 + (y 1).val) :
    (iblk m c 3 t : Vec F S5120x1024 .i8) y = (V m c main_arg2 : S5120x27648.Idx → BitVec 8) j := by
  show V m c (Pipeline.arrRef spec0 3) (((cfg0.win 3).blk t).view.emb y) = V m c (Pipeline.arrRef spec0 3) j
  have hb0 : (((cfg0.win 3).blk t).view.emb y 0).val = win0_3.index t (0 : Fin 2) * 5120 + 1 * (y 0).val := rfl
  have hb1 : (((cfg0.win 3).blk t).view.emb y 1).val = win0_3.index t (1 : Fin 2) * 1024 + 1 * (y 1).val := rfl
  obtain ⟨-, -, e20, e21, e30, e31, e40, e41, e50, e51, -, -⟩ := idx_facts t
  refine congrArg _ (funext fun a => Fin.ext ?_)
  match a with
  | ⟨0, _⟩ => show (((cfg0.win 3).blk t).view.emb y 0).val = (j 0).val; rw [hb0, h0, e30]; omega
  | ⟨1, _⟩ => show (((cfg0.win 3).blk t).view.emb y 1).val = (j 1).val; rw [hb1, h1, e31]; omega

/-- Window 4's block at `y` is its array at the index with these coordinates. -/
theorem iblk4_apply (c : Dev nD) (t : Fin cfg0.N) (y : S1x1024.Idx) (j : S1x27648.Idx) (h0 : (j 0).val = (y 0).val) (h1 : (j 1).val = t.val / 16 * 1024 + (y 1).val) :
    (iblk m c 4 t : Vec F S1x1024 .i32) y = (V m c main_v3 : S1x27648.Idx → BitVec 32) j := by
  show V m c (Pipeline.arrRef spec0 4) (((cfg0.win 4).blk t).view.emb y) = V m c (Pipeline.arrRef spec0 4) j
  have hb0 : (((cfg0.win 4).blk t).view.emb y 0).val = win0_4.index t (0 : Fin 2) * 1 + 1 * (y 0).val := rfl
  have hb1 : (((cfg0.win 4).blk t).view.emb y 1).val = win0_4.index t (1 : Fin 2) * 1024 + 1 * (y 1).val := rfl
  obtain ⟨-, -, e20, e21, e30, e31, e40, e41, e50, e51, -, -⟩ := idx_facts t
  refine congrArg _ (funext fun a => Fin.ext ?_)
  match a with
  | ⟨0, _⟩ => show (((cfg0.win 4).blk t).view.emb y 0).val = (j 0).val; rw [hb0, h0, e40]; omega
  | ⟨1, _⟩ => show (((cfg0.win 4).blk t).view.emb y 1).val = (j 1).val; rw [hb1, h1, e41]; omega

/-- Window 5's block at `y` is its array at the index with these coordinates. -/
theorem iblk5_apply (c : Dev nD) (t : Fin cfg0.N) (y : S1x1024.Idx) (j : S1x27648.Idx) (h0 : (j 0).val = (y 0).val) (h1 : (j 1).val = t.val / 16 * 1024 + (y 1).val) :
    (iblk m c 5 t : Vec F S1x1024 .f32) y = (V m c main_v4 : S1x27648.Idx → F .f32) j := by
  show V m c (Pipeline.arrRef spec0 5) (((cfg0.win 5).blk t).view.emb y) = V m c (Pipeline.arrRef spec0 5) j
  have hb0 : (((cfg0.win 5).blk t).view.emb y 0).val = win0_5.index t (0 : Fin 2) * 1 + 1 * (y 0).val := rfl
  have hb1 : (((cfg0.win 5).blk t).view.emb y 1).val = win0_5.index t (1 : Fin 2) * 1024 + 1 * (y 1).val := rfl
  obtain ⟨-, -, e20, e21, e30, e31, e40, e41, e50, e51, -, -⟩ := idx_facts t
  refine congrArg _ (funext fun a => Fin.ext ?_)
  match a with
  | ⟨0, _⟩ => show (((cfg0.win 5).blk t).view.emb y 0).val = (j 0).val; rw [hb0, h0, e50]; omega
  | ⟨1, _⟩ => show (((cfg0.win 5).blk t).view.emb y 1).val = (j 1).val; rw [hb1, h1, e51]; omega

/-- Window 0's block is the same at the points of one column. -/
theorem iblk0_congr (c : Dev nD) (t u : Fin cfg0.N) (h : t.val / 16 = u.val / 16) :
    (iblk m c 0 t : Vec F S1 .i32) = iblk m c 0 u := by
  funext y; exact (iblk0_apply m c t y).trans (iblk0_apply m c u y).symm

/-- Window 3's block is the same at the points of one column. -/
theorem iblk3_congr (c : Dev nD) (t u : Fin cfg0.N) (h : t.val / 16 = u.val / 16) :
    (iblk m c 3 t : Vec F S5120x1024 .i8) = iblk m c 3 u := by
  funext y
  have hy0 : (y 0).val < 5120 := (y 0).isLt
  have hy1 : (y 1).val < 1024 := (y 1).isLt
  have ht : t.val < 432 := lt_of_lt_of_eq t.isLt (show cfg0.N = 432 from N_0)
  let j : S5120x27648.Idx := fun a => match a with
    | ⟨0, _⟩ => ⟨(y 0).val, hy0⟩
    | ⟨1, _⟩ => ⟨t.val / 16 * 1024 + (y 1).val, by show _ < 27648; omega⟩
  exact (iblk3_apply m c t y j rfl rfl).trans (iblk3_apply m c u y j rfl (by rw [← h])).symm

/-- Window 4's block is the same at the points of one column. -/
theorem iblk4_congr (c : Dev nD) (t u : Fin cfg0.N) (h : t.val / 16 = u.val / 16) :
    (iblk m c 4 t : Vec F S1x1024 .i32) = iblk m c 4 u := by
  funext y
  have hy0 : (y 0).val < 1 := (y 0).isLt
  have hy1 : (y 1).val < 1024 := (y 1).isLt
  have ht : t.val < 432 := lt_of_lt_of_eq t.isLt (show cfg0.N = 432 from N_0)
  let j : S1x27648.Idx := fun a => match a with
    | ⟨0, _⟩ => ⟨(y 0).val, hy0⟩
    | ⟨1, _⟩ => ⟨t.val / 16 * 1024 + (y 1).val, by show _ < 27648; omega⟩
  exact (iblk4_apply m c t y j rfl rfl).trans (iblk4_apply m c u y j rfl (by rw [← h])).symm

/-! ## What each point leaves -/

/-- The bf16 scratch after point `n`. -/
def sc0 (c : Dev nD) (n : ℕ) (hn : n < cfg0.N) : Vec F S5120x1024 .bf16 := S0 (F := F) (iblk m c 3 ⟨n, hn⟩)

/-- The offset scratch after point `n`. -/
def sc1 (c : Dev nD) (n : ℕ) (hn : n < cfg0.N) : Vec F S1x1024 .i32 :=
  S1' (F := F) ((iblk m c 0 ⟨n, hn⟩ : Vec F S1 .i32) zidx) (iblk m c 3 ⟨n, hn⟩) (iblk m c 4 ⟨n, hn⟩)

/-- The output block after point `t`. -/
def o6 (c : Dev nD) (t : Fin cfg0.N) : Vec F S1024x1024 .i8 :=
  out6 (F := F) ((iblk m c 1 t : Vec F S1 .i32) zidx) (iblk m c 2 t) (iblk m c 5 t) (sc0 m c t.val t.isLt) (sc1 m c t.val t.isLt)

/-- The point before one that does not start a column is in the same column, so left the same bf16 scratch. -/
theorem sc0_pred (c : Dev nD) (t : Fin cfg0.N) (h0 : ¬t.val % 16 = 0) :
    sc0 m c (t.val - 1) (Nat.lt_of_le_of_lt (Nat.sub_le _ _) t.isLt) = sc0 m c t.val t.isLt := by
  unfold sc0
  rw [iblk3_congr m c ⟨t.val - 1, Nat.lt_of_le_of_lt (Nat.sub_le _ _) t.isLt⟩ t (by show (t.val - 1) / 16 = t.val / 16; omega)]

/-- The same of the offset scratch. -/
theorem sc1_pred (c : Dev nD) (t : Fin cfg0.N) (h0 : ¬t.val % 16 = 0) :
    sc1 m c (t.val - 1) (Nat.lt_of_le_of_lt (Nat.sub_le _ _) t.isLt) = sc1 m c t.val t.isLt := by
  unfold sc1
  have h : (⟨t.val - 1, Nat.lt_of_le_of_lt (Nat.sub_le _ _) t.isLt⟩ : Fin cfg0.N).val / 16 = t.val / 16 := by show (t.val - 1) / 16 = t.val / 16; omega
  rw [iblk3_congr m c _ t h, iblk0_congr m c _ t h, iblk4_congr m c _ t h]

/-- The region invariant before position `n` with a scratch the kernel CARRIES between points: before the first point the
    class's (Lib/Pipeline/Frame.lean `ΦA`: every scratch at anything); afterwards the scoped rest with each carried scratch
    at what the point before left in it (`sc0`, `sc1`), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare (sc0 m c n hn) ∗ owns (c : Thread nD τ) scM0_1 fullShare (sc1 m c n hn)) ∗ (∃ r, prngReg c r))

/-- Before the first grid point the invariant is the one the launch hands over. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare (sc0 m c n hn) ∗ owns (c : Thread nD τ) scM0_1 fullShare (sc1 m c n hn)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare (sc0 m c (n - 1) (by omega)) ∗ owns (c : Thread nD τ) scM0_1 fullShare (sc1 m c (n - 1) (by omega))) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at the closed forms; the invariant the class's
    (`PhiS`: the class's `ΦA` before the first point, then the scoped rest with the carried scratch at `sc0`, `sc1`);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => o6 m c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- What window 1 holds after the body at a grid point. -/
theorem after0_1 (c : Dev nD) (t : Fin cfg0.N) : (dats m 0 c).after 1 t = iblk m c 1 t := by dsimp only [dats]
/-- What window 2 holds after the body at a grid point. -/
theorem after0_2 (c : Dev nD) (t : Fin cfg0.N) : (dats m 0 c).after 2 t = iblk m c 2 t := by dsimp only [dats]
/-- What window 3 holds after the body at a grid point. -/
theorem after0_3 (c : Dev nD) (t : Fin cfg0.N) : (dats m 0 c).after 3 t = iblk m c 3 t := by dsimp only [dats]
/-- What window 4 holds after the body at a grid point. -/
theorem after0_4 (c : Dev nD) (t : Fin cfg0.N) : (dats m 0 c).after 4 t = iblk m c 4 t := by dsimp only [dats]
/-- What window 5 holds after the body at a grid point. -/
theorem after0_5 (c : Dev nD) (t : Fin cfg0.N) : (dats m 0 c).after 5 t = iblk m c 5 t := by dsimp only [dats]
/-- What window 6 holds after the body at a grid point. -/
theorem after0_6 (c : Dev nD) (t : Fin cfg0.N) : (dats m 0 c).after 6 t = o6 m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What window 1 holds before the body at a grid point. -/
theorem before0_1 (c : Dev nD) (t : Fin cfg0.N) (d) : (dats m 0 c).before 1 t d = iblk m c 1 t :=
  before0_1_of m (dats m 0 c) (A_eq m c 1) (after0_1 m c) t d
/-- What window 2 holds before the body at a grid point. -/
theorem before0_2 (c : Dev nD) (t : Fin cfg0.N) (d) : (dats m 0 c).before 2 t d = iblk m c 2 t :=
  before0_2_of m (dats m 0 c) (A_eq m c 2) (after0_2 m c) t d
/-- What window 3 holds before the body at a grid point. -/
theorem before0_3 (c : Dev nD) (t : Fin cfg0.N) (d) : (dats m 0 c).before 3 t d = iblk m c 3 t :=
  before0_3_of m (dats m 0 c) (A_eq m c 3) (after0_3 m c) t d
/-- What window 4 holds before the body at a grid point. -/
theorem before0_4 (c : Dev nD) (t : Fin cfg0.N) (d) : (dats m 0 c).before 4 t d = iblk m c 4 t :=
  before0_4_of m (dats m 0 c) (A_eq m c 4) (after0_4 m c) t d
/-- What window 5 holds before the body at a grid point. -/
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 6400000 in
/-- The body at any point: at a column's first point the scratch is filled from anything; at the others it holds what the
    column's first point left, which is what this point's blocks give, the column's weight, bias and zero-point blocks
    being the same. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 432 := lt_of_lt_of_eq t.isLt (show cfg0.N = 432 from N_0)
  by_cases h0 : t.val % 16 = 0
  · by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (run_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (run_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      isplitl [HS1]; · iexists _; iexact HS1
      iintro ⟨H0, H1, H2, H3, H4, H5, H6, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · by_cases hz : t.val = 0
    · exfalso; omega
    · rw [PhiS_castSucc m c t, PhiS_pos m c _ _ hz, sc0_pred m c t h0, sc1_pred m c t h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (run_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (sc0 m c t.val t.isLt) (sc1 m c t.val t.isLt) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 432 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: every weakly fair execution terminates with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Hand

end
-- ==== Proof.KernelFrame.lean ====
/-
  The frame of the kernel as printed: its program is, word for word, the one that is read over the reals, so the frame proved
  there for any reading of the floats is its frame as well.
-/
module

public import proofs.«01_k».proof.Defs
public import proofs.«01_k».proof.Proof.Gen.Kernel
public import proofs.«01_k».proof.Proof.HandFrame

@[expose] public section

set_option maxRecDepth 16384

namespace Cert.Kernel.Hand

open Idealize.ShloMosaic Idealize.SL.Sem

/-- The two programs have the same kernel body. -/
theorem body_eq : Kernel.cc0_qs8_linear (F := Bits) = KernelIdeal.cc0_qs8_linear (F := Bits) := rfl

/-- The two programs have the same table of kernel bodies. -/
theorem defs₀_eq : Kernel.defs₀ (F := Bits) = KernelIdeal.defs₀ (F := Bits) := by
  unfold Kernel.defs₀ KernelIdeal.defs₀
  refine congrArg Defs.onTc ?_
  funext l x
  match l, x with
  | 0, (t, s) => rfl

/-- The two programs have the same table of bodies and pipelines. -/
theorem defs_eq : Kernel.defs (F := Bits) = KernelIdeal.defs (F := Bits) :=
  congrArg (Pipeline.defs (KernelIdeal.pcfgs (F := Bits))) defs₀_eq

/-- The two programs have the same `main`. -/
theorem main_eq : Kernel.main (F := Bits) = KernelIdeal.main (F := Bits) := rfl

/-- THE FRAME of the kernel as printed: every weakly fair execution terminates with the arguments unchanged and every
    semaphore at zero. -/
theorem frame : Cert.quiescent_Kernel (hKernel := Cert.Kernel.Gen.facts) := by
  intro m ρ _
  rw [defs_eq, main_eq]
  exact Cert.KernelIdeal.Hand.frame (F := Bits) m ρ

end Cert.Kernel.Hand

end
-- ==== Proof.Math.lean ====
/-
  The arithmetic behind the value claim: a 1024-deep product of two signed bytes, summed as real numbers, rounded to the
  nearest integer and converted to a 32-bit word, is the wrapping 32-bit sum of the sign-extended products. The sum is an
  integer of magnitude at most 2^24, so neither the rounding nor the conversion loses anything.
-/
module

public import Idealize.ShloMosaic.PureOps.Ideal
public import Idealize.ShloMosaic.PureOps.Ideal.Laws
public import Idealize.ShloMosaic.Lib.Pointwise
public import Mathlib.Data.BitVec

@[expose] public section

noncomputable section

namespace Cert.Math

open Idealize.ShloMosaic

/-- Rounding an integer to the nearest integer leaves it. -/
theorem roundHalfEven_int (n : ℤ) : Ideal.roundHalfEven (n : ℝ) = n := by
  unfold Ideal.roundHalfEven
  simp

/-- A sum of integers, added as extended reals, is the integer sum. -/
theorem coe_sum {ι : Type} (s : Finset ι) (f : ι → ℤ) :
    ∑ k ∈ s, (((f k : ℤ) : ℝ) : EReal) = (((∑ k ∈ s, f k : ℤ) : ℝ) : EReal) := by
  classical
  induction s using Finset.induction_on with
  | empty => simp
  | insert a s h ih => rw [Finset.sum_insert h, Finset.sum_insert h, ih]; push_cast; rfl

/-- An integer in the 32-bit range, rounded and converted, is that integer's word. -/
theorem fptosi_int (n : ℤ) (h : -2147483648 ≤ n) (h' : n ≤ 2147483647) :
    Ideal.fptosi 32 (Ideal.liftRound Ideal.roundHalfEven ((n : ℝ) : EReal)) = BitVec.ofInt 32 n := by
  rw [Ideal.liftRound_coe, roundHalfEven_int]
  unfold Ideal.fptosi
  rw [Ideal.toIntClamped_coe]
  congr 1
  simp only [Int.floor_intCast, Int.ceil_intCast, ite_self]
  norm_num
  omega

/-- The word of an integer sum is the wrapping sum of the words. -/
theorem ofInt_sum {ι : Type} (s : Finset ι) (f : ι → ℤ) :
    BitVec.ofInt 32 (∑ k ∈ s, f k) = ∑ k ∈ s, BitVec.ofInt 32 (f k) := by
  classical
  induction s using Finset.induction_on with
  | empty => simp
  | insert a s h ih => rw [Finset.sum_insert h, Finset.sum_insert h, BitVec.ofInt_add, ih]

/-- A signed byte is between −128 and 127. -/
theorem toInt_byte (x : BitVec 8) : |x.toInt| ≤ 128 := by
  have h1 := BitVec.le_toInt x
  have h2 := BitVec.toInt_lt (x := x)
  norm_num at h1 h2
  rw [abs_le]; omega

/-- The rounded 1024-deep product of signed bytes is the wrapping 32-bit sum of products. -/
theorem block_exact (x w : Fin 1024 → BitVec 8) :
    Ideal.fptosi 32 (Ideal.liftRound Ideal.roundHalfEven (∑ k, (((x k).toInt : ℝ) : EReal) * (((w k).toInt : ℝ) : EReal)))
      = ∑ k, (x k).signExtend 32 * (w k).signExtend 32 := by
  have e : (∑ k, (((x k).toInt : ℝ) : EReal) * (((w k).toInt : ℝ) : EReal))
      = (((∑ k, (x k).toInt * (w k).toInt : ℤ) : ℝ) : EReal) := by
    rw [← coe_sum]
    exact Finset.sum_congr rfl fun k _ => by push_cast; rfl
  have b : |∑ k, (x k).toInt * (w k).toInt| ≤ 16777216 := by
    refine (Finset.abs_sum_le_sum_abs _ _).trans ?_
    refine (Finset.sum_le_card_nsmul _ _ 16384 fun k _ => ?_).trans (by simp)
    rw [abs_mul]
    have hx := toInt_byte (x k); have hw := toInt_byte (w k)
    nlinarith [abs_nonneg (x k).toInt, abs_nonneg (w k).toInt]
  rw [abs_le] at b
  rw [e, fptosi_int _ (by omega) (by omega), ofInt_sum]
  exact Finset.sum_congr rfl fun k _ => by rw [BitVec.ofInt_mul]; rfl

/-- A fold of 32-bit addition from zero is the sum. -/
theorem fold_addi {ι : Type} (s : Finset ι) (f : ι → BitVec 32) : s.fold IntOp.addi 0#32 f = ∑ k ∈ s, f k := by
  classical
  induction s using Finset.induction_on with
  | empty => rfl
  | insert a s h ih => rw [Finset.fold_insert h, Finset.sum_insert h, ih]; rfl

/-- A sum over 5120 terms is the sum of its five runs of 1024. -/
theorem sum_five (f : ℕ → BitVec 32) :
    ∑ k ∈ Finset.range 5120, f k
      = 0#32 + (∑ k ∈ Finset.range 1024, f k) + (∑ k ∈ Finset.range 1024, f (1024 + k)) + (∑ k ∈ Finset.range 1024, f (2048 + k))
        + (∑ k ∈ Finset.range 1024, f (3072 + k)) + (∑ k ∈ Finset.range 1024, f (4096 + k)) := by
  rw [show (5120 : ℕ) = 4096 + 1024 from rfl, Finset.sum_range_add, show (4096 : ℕ) = 3072 + 1024 from rfl, Finset.sum_range_add,
    show (3072 : ℕ) = 2048 + 1024 from rfl, Finset.sum_range_add, show (2048 : ℕ) = 1024 + 1024 from rfl, Finset.sum_range_add]
  simp

/-- The entry of a two-dimensional array at natural-number coordinates (a default outside it). -/
def ent {α : Type} [Inhabited α] {a b : ℕ} (X : (⟨2, ![a, b]⟩ : Shape).Idx → α) (i j : ℕ) : α :=
  if h : i < a ∧ j < b then X (ix2 ⟨i, h.1⟩ ⟨j, h.2⟩) else default

/-- An array read at an index is its entry at the index's coordinates. -/
theorem ent_of {α : Type} [Inhabited α] {a b : ℕ} (X : (⟨2, ![a, b]⟩ : Shape).Idx → α) (y : (⟨2, ![a, b]⟩ : Shape).Idx) (i j : ℕ)
    (hi : (y 0).val = i) (hj : (y 1).val = j) : X y = ent X i j := by
  subst hi hj
  have h0 : (y 0).val < a := (y 0).isLt
  have h1 : (y 1).val < b := (y 1).isLt
  rw [ent, dif_pos ⟨h0, h1⟩]
  congr 1
  funext c; fin_cases c <;> rfl

end Cert.Math

end
-- ==== Proof.Tiles.lean ====
/-
  The kernel's block values over the reals: what one grid point leaves in the scratch buffers and in the output block,
  entry by entry. The bf16 scratch holds the weight block's integers; the offset scratch holds `bias − x_zp · (column sum)`;
  an output entry is the requantization `rq` of the wrapping 32-bit dot product plus the offset.
-/
module

public import proofs.«01_k».proof.Proof.Body
public import proofs.«01_k».proof.Proof.Math
public import Idealize.ShloMosaic.Lib.Pipeline.ValueKit

@[expose] public section

set_option maxRecDepth 16384

noncomputable section

namespace Cert.KernelIdeal.Hand

open Idealize.ShloMosaic Idealize.ShloMosaic.TcCoe Idealize.SL.Sem
open Cert.KernelIdeal Cert.KernelIdeal.Gen Cert.Math

/-- Requantization of one accumulator `a`: scale it, clamp it between `−128 − y_zp` and `127 − y_zp`, round it to the nearest
    integer, add the output zero point `y_zp` and keep the low byte. -/
def rq (yzp : BitVec 32) (sc : EReal) (a : BitVec 32) : BitVec 8 :=
  (IntOp.addi (FloatOps.fptosi (F := Ideal) (φ := .f32) 32 (FloatOps.roundeven (F := Ideal) (φ := .f32)
    (FloatOps.minimumf (F := Ideal) (φ := .f32) (k0_pay2 (F := Ideal) yzp)
      (FloatOps.maximumf (F := Ideal) (φ := .f32) (k0_pay1 (F := Ideal) yzp)
        (FloatOps.mulf (F := Ideal) (φ := .f32) (FloatOps.sitofp (F := Ideal) .f32 a) sc))))) yzp).setWidth 8

/-- The rounded product of a 256 × 1024 block of bytes and a 1024 × 512 block, at one entry. -/
def blk (x : Vec Ideal S256x1024 .i8) (w : Vec Ideal S1024x512 .bf16) (z : S256x512.Idx) : BitVec 32 :=
  fptosi (F := Ideal) (φ := .f32) 32 (roundeven (F := Ideal) (φ := .f32) (matmul (F := Ideal) (φ₁ := .bf16) (φ₂ := .bf16)
    dot_S256x1024_S1024x512_S256x512_1_0_0_1_n_n none (sitofp (F := Ideal) .bf16 x) w (constant (F := Ideal) S256x512 .f32 0x00000000#32))) z

/-- If the second operand holds the integers of a byte block, the entry is the wrapping sum of products. -/
theorem blk_eq (x : Vec Ideal S256x1024 .i8) (w : Vec Ideal S1024x512 .bf16) (z : S256x512.Idx) (u v : ℕ → BitVec 8)
    (hx : ∀ k : Fin 1024, x (ix2 (z 0) k) = u k) (hw : ∀ k : Fin 1024, w (ix2 k (z 1)) = (((v k).toInt : ℝ) : EReal)) :
    blk x w z = ∑ k ∈ Finset.range 1024, (u k).signExtend 32 * (v k).signExtend 32 := by
  have e : blk x w z = Ideal.fptosi 32 (Ideal.liftRound Ideal.roundHalfEven
      (∑ k : Fin 1024, (((x (ix2 (z 0) k)).toInt : ℝ) : EReal) * w (ix2 k (z 1)))) := by
    unfold blk
    pointwise
    rfl
  rw [e]
  simp only [hx, hw]
  rw [block_exact, Finset.sum_range]

/-- The left tile's stored word at an entry. -/
theorem pay9_apply (v1 : BitVec 32) (acc : IVec S256x512 32) (x : Vec Ideal S256x1024 .i8) (w : Vec Ideal S1024x512 .bf16)
    (o : Vec Ideal S1x512 .i32) (sc : Vec Ideal S1x512 .f32) (z : S256x512.Idx) :
    k0_pay9 (F := Ideal) v1 (k0_pay1 (F := Ideal) v1) (k0_pay2 (F := Ideal) v1) acc x w o sc z
      = rq v1 (sc (ix2 0 (z 1))) (acc z + blk x w z + o (ix2 0 (z 1))) := by
  have ho : broadcastTo S256x512 o broadcasts_S1x512_S256x512 z = o (ix2 0 (z 1)) := by pointwise
  have hs : broadcastTo S256x512 sc broadcasts_S1x512_S256x512 z = sc (ix2 0 (z 1)) := by pointwise
  rw [← ho, ← hs]
  unfold k0_pay9
  simp only [shapeCast_self]
  rfl

/-- The left tile's sum of its first four blocks at an entry. -/
theorem pay8_apply (x0 x1 x2 x3 : Vec Ideal S256x1024 .i8) (w0 w1 w2 w3 : Vec Ideal S1024x512 .bf16) (z : S256x512.Idx) :
    k0_pay8 (F := Ideal) x0 w0 x1 w1 x2 w2 x3 w3 z = 0#32 + blk x0 w0 z + blk x1 w1 z + blk x2 w2 z + blk x3 w3 z := by
  unfold k0_pay8
  simp only [shapeCast_self]
  rfl

/-- The right tile computes what the left tile computes. -/
theorem pay7_eq (v1 : BitVec 32) (x0 x1 x2 x3 x4 : Vec Ideal S256x1024 .i8) (w0 w1 w2 w3 w4 : Vec Ideal S1024x512 .bf16)
    (o : Vec Ideal S1x512 .i32) (sc : Vec Ideal S1x512 .f32) :
    k0_pay7 (F := Ideal) v1 (k0_pay12 (F := Ideal) (k0_pay1 (F := Ideal) v1) (k0_pay2 (F := Ideal) v1)
        (k0_pay10 (F := Ideal) x0 w0) (k0_pay11 (F := Ideal) x1 w1) x2 w2 x3 w3 x4 w4 o sc)
      = k0_pay9 (F := Ideal) v1 (k0_pay1 (F := Ideal) v1) (k0_pay2 (F := Ideal) v1) (k0_pay8 (F := Ideal) x0 w0 x1 w1 x2 w2 x3 w3) x4 w4 o sc := by
  unfold k0_pay7 k0_pay12 k0_pay10 k0_pay11 k0_pay9 k0_pay8
  rfl

/-! ### The weight loop -/

/-- The weight loop makes 20 trips. -/
theorem trips1 : k0_t1_loop.trips = 20 := by decide +kernel

/-- The row loop makes 4 trips. -/
theorem trips2 : k0_t2_loop.trips = 4 := by decide +kernel

/-- The weight block's integers as extended reals. -/
def wb (x3 : Vec Ideal S5120x1024 .i8) : Vec Ideal S5120x1024 .bf16 := fun y => (((x3 y).toInt : ℝ) : EReal)

/-- Every piece of the weight loop holds the weight block's integers. -/
theorem wpieces_of (x3 : Vec Ideal S5120x1024 .i8) (n : ℕ) :
    ∀ p ∈ wpieces (F := Ideal) x3 n, ∀ x, p.2 x = wb x3 (p.1.emb x) := by
  induction n with
  | zero => intro p hp; simp [wpieces] at hp
  | succ n ih =>
    intro p hp
    unfold wpieces at hp
    split at hp
    · rcases List.mem_cons.1 hp with rfl | hp
      · intro x
        simp only [k0_pay4, shapeCast_self]
        rfl
      · exact ih p hp
    · exact ih p hp

/-- The bf16 scratch holds the weight block's integers. -/
theorem S0_eq (x3 : Vec Ideal S5120x1024 .i8) : S0 (F := Ideal) x3 = wb x3 :=
  funext fun y => View.canon_apply_of_pieces (wb x3) _ (wpieces_of x3 _) y (wcover x3 y)

/-- A load through a unit-stride rectangle reads the entry at the rectangle's offset plus the coordinates. -/
theorem ld_ent {Val : EltTy → Type} {e : EltTy} [Inhabited (Val e)] {a b c d : ℕ} (X : (⟨2, ![a, b]⟩ : Shape).Idx → Val e)
    (off : Fin 2 → ℕ) (inb) (x : (⟨2, ![c, d]⟩ : Shape).Idx) (p q : ℕ) (h : off = ![p, q]) :
    View.ld X (Rect.unit off (⟨2, ![c, d]⟩ : Shape).size inb) x = ent X (p + (x 0).val) (q + (x 1).val) := by
  subst h
  refine ent_of X _ _ _ ?_ ?_
  · exact Rect.idx_unit_val _ _ _ _ _
  · exact Rect.idx_unit_val _ _ _ _ _

/-- The weight rows of a trip lie within the weight block. -/
theorem inb_t1 (k : Fin k0_t1_loop.trips) (a : Fin 2) : k0_off1 k a + S256x1024.size a ≤ S5120x1024.size a := by
  rw [k0_off1_eq]; have hk := k.isLt; have := trips1
  fin_cases a <;> simp [S256x1024, S5120x1024] <;> omega

/-- The column sums carried into trip `n` are the sums over the first `256·n` rows. -/
theorem carry_apply (x3 : Vec Ideal S5120x1024 .i8) (n : ℕ) (hn : n ≤ 20) (j : S1x1024.Idx) :
    carry (F := Ideal) x3 n j = ∑ k ∈ Finset.range (256 * n), (ent x3 k (j 1).val : BitVec 8).signExtend 32 := by
  induction n with
  | zero => rfl
  | succ n ih =>
    have h : n < k0_t1_loop.trips := by rw [trips1]; omega
    unfold carry
    rw [dif_pos h, Nat.mul_succ, Finset.sum_range_add, ← ih (by omega)]
    have e : ∀ v : Vec Ideal S256x1024 .i8, k0_pay5 (F := Ideal) (carry (F := Ideal) x3 n) v j
        = carry (F := Ideal) x3 n j + ∑ k : Fin 256, (v (ix2 k (j 1)) : BitVec 8).signExtend 32 := by
      intro v
      have e2 : shapeCast S1x1024 (multiReductionI .add [0] S1024 (extsi 32 v natLt_8_32 : IVec S256x1024 32) 0#32 reduces_S256x1024_S1024 rfl) shapeCasts_S1024_S1x1024 j
          = ∑ k : Fin 256, (v (ix2 k (j 1)) : BitVec 8).signExtend 32 := by
        rw [← fold_addi]
        pointwise
      rw [← e2]
      rfl
    refine (e _).trans ?_
    rw [Finset.sum_range]
    refine congrArg _ (Finset.sum_congr rfl fun k _ => ?_)
    congr 1
    have := ld_ent (Val := Elt Ideal) (e := .i8) (c := 256) (d := 1024) x3 (k0_off1 ⟨n, h⟩) (inb_t1 ⟨n, h⟩) (ix2 k (j 1)) (256 * n) 0 (k0_off1_eq _)
    rw [Nat.zero_add] at this
    exact this

/-- The offset scratch at an entry. -/
theorem S1'_apply (v0 : BitVec 32) (x3 : Vec Ideal S5120x1024 .i8) (x4 : Vec Ideal S1x1024 .i32) (j : S1x1024.Idx) :
    S1' (F := Ideal) v0 x3 x4 j
      = x4 j - v0 * ∑ k ∈ Finset.range 5120, (ent x3 k (j 1).val : BitVec 8).signExtend 32 := by
  have hc := carry_apply x3 20 le_rfl j
  rw [show 256 * 20 = 5120 from rfl] at hc
  rw [← hc]
  unfold S1' k0_pay6
  simp only [shapeCast_self]
  rw [trips1]
  rfl

/-! ### The row loop -/

/-- The dot product of row `r` of the activations and column `c` of the weights, both sign-extended, in wrapping 32-bit words. -/
def dotw {a b : ℕ} (x : (⟨2, ![a, 5120]⟩ : Shape).Idx → BitVec 8) (w : (⟨2, ![5120, b]⟩ : Shape).Idx → BitVec 8) (r c : ℕ) : BitVec 32 :=
  ∑ k ∈ Finset.range 5120, (ent x r k).signExtend 32 * (ent w k c).signExtend 32

/-- An entry of the output block: the requantized dot product plus the offset. -/
def outv (v1 : BitVec 32) (x2 : Vec Ideal S1024x5120 .i8) (x3 : Vec Ideal S5120x1024 .i8) (x5 : Vec Ideal S1x1024 .f32) (s1 : Vec Ideal S1x1024 .i32)
    (y : S1024x1024.Idx) : BitVec 8 :=
  rq v1 (x5 (ix2 0 (y 1))) (dotw (a := 1024) (b := 1024) x2 x3 (y 0).val (y 1).val + s1 (ix2 0 (y 1)))

/-- One block's product, read in the activation block and the weight scratch. -/
theorem blk_ld (x2 : Vec Ideal S1024x5120 .i8) (x3 : Vec Ideal S5120x1024 .i8) (z : S256x512.Idx) (p q s : ℕ)
    (off off' : Fin 2 → ℕ) (inb inb') (h : off = ![p, q]) (h' : off' = ![q, s]) (hq : q + 1024 ≤ 5120) (hs : s + 512 ≤ 1024) :
    blk (View.ld x2 (Rect.unit off S256x1024.size inb)) (View.ld (wb x3) (Rect.unit off' S1024x512.size inb')) z
      = ∑ k ∈ Finset.range 1024, (ent (a := 1024) (b := 5120) x2 (p + (z 0).val) (q + k) : BitVec 8).signExtend 32
          * (ent (a := 5120) (b := 1024) x3 (q + k) (s + (z 1).val) : BitVec 8).signExtend 32 := by
  refine blk_eq _ _ z (fun k => ent (a := 1024) (b := 5120) x2 (p + (z 0).val) (q + k)) (fun k => ent (a := 5120) (b := 1024) x3 (q + k) (s + (z 1).val)) ?_ ?_
  · intro k
    exact ld_ent (Val := Elt Ideal) (e := .i8) (a := 1024) (b := 5120) (c := 256) (d := 1024) x2 off inb (ix2 (z 0) k) p q h
  · intro k
    have := ld_ent (Val := Elt Ideal) (e := .i8) (a := 5120) (b := 1024) (c := 1024) (d := 512) x3 off' inb' (ix2 k (z 1)) q s h'
    show (((View.ld (Val := Elt Ideal) (e' := .i8) x3 (Rect.unit off' S1024x512.size inb') (ix2 k (z 1)) : BitVec 8).toInt : ℝ) : EReal) = _
    rw [this]
    rfl

/-- A row vector's column slice at an entry. -/
theorem row_ld {e : EltTy} [Inhabited (Elt Ideal e)] (X : Vec Ideal S1x1024 e) (s : ℕ) (off : Fin 2 → ℕ) (inb) (h : off = ![0, s]) (z : Fin 512)
    (j : Fin 1024) (hj : j.val = s + z.val) :
    View.ld X (Rect.unit off S1x512.size inb) (ix2 0 z) = X (ix2 0 j) := by
  rw [ent_of (a := 1) (b := 1024) X (ix2 0 j) 0 (s + z.val) rfl hj]
  exact ld_ent (Val := Elt Ideal) (e := e) (a := 1) (b := 1024) (c := 1) (d := 512) X off inb (ix2 0 z) 0 s h

/-- The left tile of a trip holds the output entries of its rectangle. -/
theorem tileL_of (v1 : BitVec 32) (x2 : Vec Ideal S1024x5120 .i8) (x3 : Vec Ideal S5120x1024 .i8) (x5 : Vec Ideal S1x1024 .f32) (s1 : Vec Ideal S1x1024 .i32)
    (k : Fin k0_t2_loop.trips) (z : S256x512.Idx) (y : S1024x1024.Idx) (h0 : (y 0).val = 256 * k.val + (z 0).val) (h1 : (y 1).val = 0 + (z 1).val) :
    tileL (F := Ideal) v1 x2 x5 (wb x3) s1 k z = outv v1 x2 x3 x5 s1 y := by
  unfold tileL outv dotw
  rw [pay9_apply, pay8_apply, sum_five,
    blk_ld x2 x3 z (256 * k.val) 0 0 _ _ _ _ (k0_off2_eq k) rfl (by norm_num) (by norm_num),
    blk_ld x2 x3 z (256 * k.val) 1024 0 _ _ _ _ (k0_off3_eq k) rfl (by norm_num) (by norm_num),
    blk_ld x2 x3 z (256 * k.val) 2048 0 _ _ _ _ (k0_off4_eq k) rfl (by norm_num) (by norm_num),
    blk_ld x2 x3 z (256 * k.val) 3072 0 _ _ _ _ (k0_off5_eq k) rfl (by norm_num) (by norm_num),
    blk_ld x2 x3 z (256 * k.val) 4096 0 _ _ _ _ (k0_off6_eq k) rfl (by norm_num) (by norm_num),
    row_ld (e := .f32) x5 0 _ _ rfl (z 1) (y 1) h1, row_ld (e := .i32) s1 0 _ _ rfl (z 1) (y 1) h1, h0, h1]
  simp only [Nat.zero_add]

/-- The right tile of a trip holds the output entries of its rectangle. -/
theorem tileR_of (v1 : BitVec 32) (x2 : Vec Ideal S1024x5120 .i8) (x3 : Vec Ideal S5120x1024 .i8) (x5 : Vec Ideal S1x1024 .f32) (s1 : Vec Ideal S1x1024 .i32)
    (k : Fin k0_t2_loop.trips) (z : S256x512.Idx) (y : S1024x1024.Idx) (h0 : (y 0).val = 256 * k.val + (z 0).val) (h1 : (y 1).val = 512 + (z 1).val) :
    tileR (F := Ideal) v1 x2 x5 (wb x3) s1 k z = outv v1 x2 x3 x5 s1 y := by
  unfold tileR outv dotw
  rw [pay7_eq, pay9_apply, pay8_apply, sum_five,
    blk_ld x2 x3 z (256 * k.val) 0 512 _ _ _ _ (k0_off2_eq k) rfl (by norm_num) (by norm_num),
    blk_ld x2 x3 z (256 * k.val) 1024 512 _ _ _ _ (k0_off3_eq k) rfl (by norm_num) (by norm_num),
    blk_ld x2 x3 z (256 * k.val) 2048 512 _ _ _ _ (k0_off4_eq k) rfl (by norm_num) (by norm_num),
    blk_ld x2 x3 z (256 * k.val) 3072 512 _ _ _ _ (k0_off5_eq k) rfl (by norm_num) (by norm_num),
    blk_ld x2 x3 z (256 * k.val) 4096 512 _ _ _ _ (k0_off6_eq k) rfl (by norm_num) (by norm_num),
    row_ld (e := .f32) x5 512 _ _ rfl (z 1) (y 1) h1, row_ld (e := .i32) s1 512 _ _ rfl (z 1) (y 1) h1, h0, h1]
  simp only [Nat.zero_add]

/-- Every piece of the row loop holds the output entries of its rectangle. -/
theorem opieces_of (v1 : BitVec 32) (x2 : Vec Ideal S1024x5120 .i8) (x3 : Vec Ideal S5120x1024 .i8) (x5 : Vec Ideal S1x1024 .f32) (s1 : Vec Ideal S1x1024 .i32) (n : ℕ) :
    ∀ p ∈ opieces (F := Ideal) v1 x2 x5 (wb x3) s1 n, ∀ x, p.2 x = outv v1 x2 x3 x5 s1 (p.1.emb x) := by
  induction n with
  | zero => intro p hp; simp [opieces] at hp
  | succ n ih =>
    intro p hp
    unfold opieces at hp
    split at hp
    · rename_i h
      rcases List.mem_cons.1 hp with rfl | hp
      · intro x
        refine tileR_of v1 x2 x3 x5 s1 ⟨n, h⟩ x _ ?_ ?_
        · exact (Rect.idx_unit_val _ _ (k0_off8_inb ⟨n, h⟩) x 0).trans (congrArg (· + (x 0).val) (congrFun (k0_off8_eq ⟨n, h⟩) 0))
        · exact (Rect.idx_unit_val _ _ (k0_off8_inb ⟨n, h⟩) x 1).trans (congrArg (· + (x 1).val) (congrFun (k0_off8_eq ⟨n, h⟩) 1))
      · rcases List.mem_cons.1 hp with rfl | hp
        · intro x
          refine tileL_of v1 x2 x3 x5 s1 ⟨n, h⟩ x _ ?_ ?_
          · exact (Rect.idx_unit_val _ _ (k0_off7_inb ⟨n, h⟩) x 0).trans (congrArg (· + (x 0).val) (congrFun (k0_off7_eq ⟨n, h⟩) 0))
          · exact (Rect.idx_unit_val _ _ (k0_off7_inb ⟨n, h⟩) x 1).trans (congrArg (· + (x 1).val) (congrFun (k0_off7_eq ⟨n, h⟩) 1))
        · exact ih p hp
    · exact ih p hp

/-- The output block, from the block contents and the converted weight scratch. -/
theorem out6_eq (v1 : BitVec 32) (x2 : Vec Ideal S1024x5120 .i8) (x3 : Vec Ideal S5120x1024 .i8) (x5 : Vec Ideal S1x1024 .f32) (s1 : Vec Ideal S1x1024 .i32) :
    out6 (F := Ideal) v1 x2 x5 (wb x3) s1 = outv v1 x2 x3 x5 s1 := by
  funext y
  unfold out6
  exact View.canon_apply_of_pieces (Val := Elt Ideal) (e := .i8) (outv v1 x2 x3 x5 s1) _ (opieces_of v1 x2 x3 x5 s1 _) y (ocover v1 x2 x5 (wb x3) s1 y)

end Cert.KernelIdeal.Hand

end
-- ==== Proof.KernelValue.lean ====
/-
  The idealized kernel's result array, entry by entry, over the reals: the requantized wrapping 32-bit dot product of an
  activation row and a weight column, plus the column's offset `bias − x_zp · (column sum)`.
-/
module

public import proofs.«01_k».proof.Proof.HandFrame
public import proofs.«01_k».proof.Proof.Tiles
public import Idealize.ShloMosaic.Lib.Pipeline.Value
public import Idealize.ShloMosaic.Lib.StableHlo.Run

@[expose] public section

set_option maxRecDepth 16384

noncomputable section

namespace Cert.KernelIdeal.Hand

open Idealize.ShloMosaic Idealize.ShloMosaic.TcCoe Idealize.SL.Sem Idealize.ShloMosaic.StableHlo
open Idealize.ShloMosaic.Pipeline (Dat Cfg Window)
open Cert.KernelIdeal Cert.KernelIdeal.Gen Cert.Math

/-- The result at row `i 0`, column `i 1`: row `i 0` is row `i 0 % 8192` of batch `i 0 / 8192`. -/
def G (x : S2x8192x5120.Idx → BitVec 8) (xzp : S_.Idx → BitVec 32) (w : S5120x27648.Idx → BitVec 8) (b : S27648.Idx → BitVec 32)
    (sc : S27648.Idx → EReal) (yzp : S_.Idx → BitVec 32) (i : S16384x27648.Idx) : BitVec 8 :=
  rq (yzp ix0) (sc (ix1 (i 1)))
    ((∑ k : Fin 5120, (x (ix3 ⟨(i 0).val / 8192, by have : (i 0).val < 16384 := (i 0).isLt; omega⟩
          ⟨(i 0).val % 8192, Nat.mod_lt _ (by decide)⟩ k)).signExtend 32 * (w (ix2 k (i 1))).signExtend 32)
      + (b (ix1 (i 1)) - xzp ix0 * ∑ k : Fin 5120, (w (ix2 k (i 1))).signExtend 32))

variable (m : (ℓ : Loc nD τ sig) → Buf (Elt Ideal) ℓ) (ρ : Dev nD → PrngReg)

/-! ### The arrays the region finds: reshapes of the arguments -/

/-- The region reads the activation zero point from a one-element array: every entry is the scalar argument. -/
theorem V_v0 (c : Dev nD) (y : S1.Idx) : (V m c main_v0 : S1.Idx → BitVec 32) y = (m ((c : Thread nD τ).loc main_arg1) : S_.Idx → BitVec 32) ix0 := by
  have e : (V m c main_v0 : S1.Idx → BitVec 32) = shapeCast S1 (m ((c : Thread nD τ).loc main_arg1) : S_.Idx → BitVec 32) shapeCasts_S_S1 := by
    simp only [V, hostOps0]; after_results_simp <;> rfl
  rw [e]
  exact shapeCast_apply _ shapeCasts_S_S1 y ix0 (by have h0 := (Shape.rowMajor S_ ix0).isLt; have h1 := (Shape.rowMajor S1 y).isLt; have n0 : S_.numel = 1 := (by decide); have n1 : S1.numel = 1 := (by decide); omega)

/-- The region reads the output zero point from a one-element array: every entry is the scalar argument. -/
theorem V_v1 (c : Dev nD) (y : S1.Idx) : (V m c main_v1 : S1.Idx → BitVec 32) y = (m ((c : Thread nD τ).loc main_arg5) : S_.Idx → BitVec 32) ix0 := by
  have e : (V m c main_v1 : S1.Idx → BitVec 32) = shapeCast S1 (m ((c : Thread nD τ).loc main_arg5) : S_.Idx → BitVec 32) shapeCasts_S_S1 := by
    simp only [V, hostOps0]; after_results_simp <;> rfl
  rw [e]
  exact shapeCast_apply _ shapeCasts_S_S1 y ix0 (by have h0 := (Shape.rowMajor S_ ix0).isLt; have h1 := (Shape.rowMajor S1 y).isLt; have n0 : S_.numel = 1 := (by decide); have n1 : S1.numel = 1 := (by decide); omega)

/-- The region reads the activations as a matrix: row `r` is row `r % 8192` of batch `r / 8192`. -/
theorem V_v2 (c : Dev nD) (y : S16384x5120.Idx) : (V m c main_v2 : S16384x5120.Idx → BitVec 8) y
    = (m ((c : Thread nD τ).loc main_arg0) : S2x8192x5120.Idx → BitVec 8) (ix3 ⟨(y 0).val / 8192, by have : (y 0).val < 16384 := (y 0).isLt; omega⟩
          ⟨(y 0).val % 8192, Nat.mod_lt _ (by decide)⟩ (y 1)) := by
  have e : (V m c main_v2 : S16384x5120.Idx → BitVec 8) = shapeCast S16384x5120 (m ((c : Thread nD τ).loc main_arg0) : S2x8192x5120.Idx → BitVec 8) shapeCasts_S2x8192x5120_S16384x5120 := by
    simp only [V, hostOps0]; after_results_simp <;> rfl
  rw [e]
  refine shapeCast_apply _ shapeCasts_S2x8192x5120_S16384x5120 y _ ?_
  rewrite [Shape.rowMajor_val_three, Shape.rowMajor_val_two]
  have h0 : (y 0).val < 16384 := (y 0).isLt
  have h1 : (y 1).val < 5120 := (y 1).isLt
  show ((y 0).val / 8192 * 8192 + (y 0).val % 8192) * 5120 + (y 1).val = (y 0).val * 5120 + (y 1).val
  omega

/-- The region reads the bias as a one-row matrix. -/
theorem V_v3 (c : Dev nD) (y : S1x27648.Idx) : (V m c main_v3 : S1x27648.Idx → BitVec 32) y = (m ((c : Thread nD τ).loc main_arg3) : S27648.Idx → BitVec 32) (ix1 (y 1)) := by
  have e : (V m c main_v3 : S1x27648.Idx → BitVec 32) = shapeCast S1x27648 (m ((c : Thread nD τ).loc main_arg3) : S27648.Idx → BitVec 32) shapeCasts_S27648_S1x27648 := by
    simp only [V, hostOps0]; after_results_simp <;> rfl
  rw [e]
  refine shapeCast_apply _ shapeCasts_S27648_S1x27648 y _ ?_
  rewrite [Shape.rowMajor_val_one, Shape.rowMajor_val_two]
  have h0 : (y 0).val < 1 := (y 0).isLt
  show (y 1).val = (y 0).val * 27648 + (y 1).val
  omega

/-- The region reads the scales as a one-row matrix. -/
theorem V_v4 (c : Dev nD) (y : S1x27648.Idx) : (V m c main_v4 : S1x27648.Idx → EReal) y = (m ((c : Thread nD τ).loc main_arg4) : S27648.Idx → EReal) (ix1 (y 1)) := by
  have e : (V m c main_v4 : S1x27648.Idx → EReal) = shapeCast S1x27648 (m ((c : Thread nD τ).loc main_arg4) : S27648.Idx → EReal) shapeCasts_S27648_S1x27648 := by
    simp only [V, hostOps0]; after_results_simp <;> rfl
  rw [e]
  refine shapeCast_apply _ shapeCasts_S27648_S1x27648 y _ ?_
  rewrite [Shape.rowMajor_val_one, Shape.rowMajor_val_two]
  have h0 : (y 0).val < 1 := (y 0).isLt
  show (y 1).val = (y 0).val * 27648 + (y 1).val
  omega

/-- The result as a function of the launch memory. -/
abbrev Gm (c : Dev nD) : S16384x27648.Idx → BitVec 8 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The bias as launched. -/
abbrev biasOf (c : Dev nD) : S27648.Idx → BitVec 32 := m ((c : Thread nD τ).loc main_arg3)

/-! ### One point's output block -/

/-- Point `t` leaves block `(t % 16, t / 16)` of the result in the output window. -/
theorem o6_apply (c : Dev nD) (t : Fin cfg0.N) (y : S1024x1024.Idx) (i : S16384x27648.Idx)
    (h0 : (i 0).val = t.val % 16 * 1024 + (y 0).val) (h1 : (i 1).val = t.val / 16 * 1024 + (y 1).val) :
    (o6 m c t : S1024x1024.Idx → BitVec 8) y = Gm m c i := by
  have hy0 : (y 0).val < 1024 := (y 0).isLt
  have hy1 : (y 1).val < 1024 := (y 1).isLt
  have hi0 : (i 0).val < 16384 := (i 0).isLt
  have hi1 : (i 1).val < 27648 := (i 1).isLt
  have hw : ∀ k : Fin 5120, ent (a := 5120) (b := 1024) (iblk m c 3 t : S5120x1024.Idx → BitVec 8) k.val (y 1).val
      = (m ((c : Thread nD τ).loc main_arg2) : S5120x27648.Idx → BitVec 8) (ix2 k (i 1)) := by
    intro k
    rw [← ent_of (a := 5120) (b := 1024) (iblk m c 3 t : S5120x1024.Idx → BitVec 8) (ix2 k (y 1)) k.val (y 1).val rfl rfl]
    refine (iblk3_apply m c t (ix2 k (y 1)) (ix2 k (i 1)) rfl h1).trans ?_
    exact congrFun (V_main_arg2 m c) _
  have hx : ∀ k : Fin 5120, ent (a := 1024) (b := 5120) (iblk m c 2 t : S1024x5120.Idx → BitVec 8) (y 0).val k.val
      = (m ((c : Thread nD τ).loc main_arg0) : S2x8192x5120.Idx → BitVec 8) (ix3 ⟨(i 0).val / 8192, by omega⟩ ⟨(i 0).val % 8192, Nat.mod_lt _ (by decide)⟩ k) := by
    intro k
    rw [← ent_of (a := 1024) (b := 5120) (iblk m c 2 t : S1024x5120.Idx → BitVec 8) (ix2 (y 0) k) (y 0).val k.val rfl rfl]
    exact (iblk2_apply m c t (ix2 (y 0) k) (ix2 (i 0) k) h0 rfl).trans (V_v2 m c (ix2 (i 0) k))
  have e4 : (iblk m c 4 t : Vec Ideal S1x1024 .i32) (ix2 0 (y 1)) = biasOf m c (ix1 (i 1)) :=
    (iblk4_apply m c t (ix2 0 (y 1)) (ix2 0 (i 1)) rfl h1).trans (V_v3 m c (ix2 0 (i 1)))
  have e5 : (iblk m c 5 t : Vec Ideal S1x1024 .f32) (ix2 0 (y 1)) = (m ((c : Thread nD τ).loc main_arg4) : S27648.Idx → EReal) (ix1 (i 1)) :=
    (iblk5_apply m c t (ix2 0 (y 1)) (ix2 0 (i 1)) rfl h1).trans (V_v4 m c (ix2 0 (i 1)))
  have e0 : (iblk m c 0 t : Vec Ideal S1 .i32) zidx = (m ((c : Thread nD τ).loc main_arg1) : S_.Idx → BitVec 32) ix0 :=
    (iblk0_apply m c t zidx).trans (V_v0 m c zidx)
  have e1 : (iblk m c 1 t : Vec Ideal S1 .i32) zidx = (m ((c : Thread nD τ).loc main_arg5) : S_.Idx → BitVec 32) ix0 :=
    (iblk1_apply m c t zidx).trans (V_v1 m c zidx)
  have es : ∀ v0 : BitVec 32, S1' (F := Ideal) v0 (iblk m c 3 t) (iblk m c 4 t) (ix2 0 (y 1))
      = biasOf m c (ix1 (i 1))
        - v0 * ∑ k : Fin 5120, ((m ((c : Thread nD τ).loc main_arg2) : S5120x27648.Idx → BitVec 8) (ix2 k (i 1))).signExtend 32 := by
    intro v0
    rw [S1'_apply, e4, Finset.sum_range]
    refine congrArg (fun s => _ - v0 * s) (Finset.sum_congr rfl fun k _ => ?_)
    exact congrArg (BitVec.signExtend 32) (hw k)
  have ed : dotw (a := 1024) (b := 1024) (iblk m c 2 t : S1024x5120.Idx → BitVec 8) (iblk m c 3 t : S5120x1024.Idx → BitVec 8) (y 0).val (y 1).val
      = ∑ k : Fin 5120, ((m ((c : Thread nD τ).loc main_arg0) : S2x8192x5120.Idx → BitVec 8) (ix3 ⟨(i 0).val / 8192, by omega⟩ ⟨(i 0).val % 8192, Nat.mod_lt _ (by decide)⟩ k)).signExtend 32
          * ((m ((c : Thread nD τ).loc main_arg2) : S5120x27648.Idx → BitVec 8) (ix2 k (i 1))).signExtend 32 := by
    unfold dotw
    rw [Finset.sum_range]
    exact Finset.sum_congr rfl fun k _ => by rw [hx k, hw k]
  have eo : o6 m c t = outv ((iblk m c 1 t : Vec Ideal S1 .i32) zidx) (iblk m c 2 t) (iblk m c 3 t) (iblk m c 5 t)
      (S1' (F := Ideal) ((iblk m c 0 t : Vec Ideal S1 .i32) zidx) (iblk m c 3 t) (iblk m c 4 t)) := by
    unfold o6 sc0 sc1
    rw [S0_eq, out6_eq]
  rw [eo]
  unfold outv
  rw [es, ed, e5, e0, e1]
  rfl

/-! ### The array after the run -/

/-- What a point writes back is its block of the result. -/
theorem flushed6_eq (c : Dev nD) (t : Fin cfg0.N) :
    (dats m 0 c).flushed 6 t = ((cfg0.win 6).blk t).view.read (Elt Ideal) (Gm m c) := by
  show (cfg0.win 6).cut (grid0.coords t) ((dats m 0 c).after 6 t) = _
  rw [after0_6]
  obtain ⟨-, -, -, -, -, -, -, -, -, -, e0, e1⟩ := idx_facts t
  funext y
  have hb0 : (((cfg0.win 6).blk t).view.emb y 0).val = win0_6.index t (0 : Fin 2) * 1024 + 1 * (y 0).val := rfl
  have hb1 : (((cfg0.win 6).blk t).view.emb y 1).val = win0_6.index t (1 : Fin 2) * 1024 + 1 * (y 1).val := rfl
  show (o6 m c t : S1024x1024.Idx → BitVec 8) ((cfg0.win 6).xinj (grid0.coords t) y) = Gm m c (((cfg0.win 6).blk t).view.emb y)
  refine o6_apply m c t _ _ ?_ ?_
  · rw [hb0, e0, one_mul]
  · rw [hb1, e1, one_mul]

/-- An index of the array is in point `t`'s block iff each coordinate is in the block's range on its axis. -/
theorem mem_blk6 (t : Fin cfg0.N) (i : S16384x27648.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v5).slice (win0_6.rect t)).set ↔ _
  rw [View.set_slice_whole, Rect.mem_set_unit]
  exact Iff.rfl

/-- The point that writes back the block at place `(q0, q1)`. -/
abbrev pt6 (q0 : Fin 16) (q1 : Fin 27) : Fin grid0.N :=
  ⟨1 * q0.val + 16 * q1.val, lt_of_lt_of_eq (by omega) N_0.symm⟩

/-- Every block of the result is some point's, and that point writes it back. -/
theorem idx_onto6 : ∀ (q0 : Fin 16) (q1 : Fin 27), ∃ t : Fin cfg0.N, (cfg0.win 6).flush t = true ∧ win0_6.index t = ![q0.val + 0, q1.val + 0] :=
  fun q0 q1 => ⟨pt6 q0 q1, (by decide +kernel : ∀ (q0 : Fin 16) (q1 : Fin 27), win0_6.flush (pt6 q0 q1) = true ∧ win0_6.index (pt6 q0 q1) = ![q0.val + 0, q1.val + 0]) q0 q1⟩

/-- The points' blocks cover the result array. -/
theorem covered6 (i : S16384x27648.Idx) : ∃ t : Fin cfg0.N, (cfg0.win 6).flush t = true ∧ i ∈ ((cfg0.win 6).blk t).view.set := by
  have hi0 : (i 0).val < 16384 := (i 0).isLt
  have hi1 : (i 1).val < 27648 := (i 1).isLt
  obtain ⟨t, hft, ht⟩ := idx_onto6 ⟨(i 0).val / 1024, by omega⟩ ⟨(i 1).val / 1024, by omega⟩
  have q0 : win0_6.index t (0 : Fin 2) = (i 0).val / 1024 + 0 := congrFun ht 0
  have q1 : win0_6.index t (1 : Fin 2) = (i 1).val / 1024 + 0 := congrFun ht 1
  refine ⟨t, hft, ?_⟩
  rw [mem_blk6]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1024 ≤ (i 1).val ∧ (i 1).val < win0_6.index t (1 : Fin 2) * 1024 + 1024; omega

/-- The result array after the run. -/
theorem final6 (c : Dev nD) : (dats m 0 c).arrAt 6 cfg0.N = Gm m c :=
  (dats m 0 c).arrAt_eq_of_cover 6 _ (fun t _ => flushed6_eq m c t) covered6

/-- THE RUN WITH ITS VALUE: the result array ends at `G` of the arguments, and the arguments end unchanged. -/
theorem run : θ_run defs (onTc (τ := τ) (main (F := Ideal))) ⟨m, fun _ => 0, ρ⟩ fun r => ∀ c : Dev nD,
      r.2.mem ((c : Thread nD τ).loc main_v5) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 6).trans (final6 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelIdeal.Hand

end
-- ==== Proof.RefValue.lean ====
/-
  The reference's result array, entry by entry, over the reals: the same function `G` of the arguments as the kernel's; and
  the reference's frame.
-/
module

public import proofs.«01_k».proof.Proof.KernelValue
public import proofs.«01_k».proof.Proof.Gen.ReferenceIdeal.Run
public import proofs.«01_k».proof.Proof.Gen.ReferenceIdeal.Read
public import Idealize.ShloMosaic.Lib.Quiescent

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.ReferenceIdeal.Read Cert.Math
open Cert.KernelIdeal.Hand (G rq)

/-- The reference's column sum of the weights. -/
theorem v1_apply (x2 : S5120x27648.Idx → BitVec 8) (j : S27648.Idx) :
    val_main_v1 (F := Ideal) x2 j = ∑ k : Fin 5120, (x2 (ix2 k (j 0))).signExtend 32 := by
  unfold val_main_v1
  rw [← fold_addi, Host.reduce_eq_fold, Shape.ReducesTo.fold_fiber_r2_a0]
  rfl

/-- The reference's integer product. -/
theorem v8_apply (x0 : S2x8192x5120.Idx → BitVec 8) (x2 : S5120x27648.Idx → BitVec 8) (j : S2x8192x27648.Idx) :
    val_main_v8 (F := Ideal) x0 x2 j = ∑ k : Fin 5120, (x0 (ix3 (j 0) (j 1) k)).signExtend 32 * (x2 (ix2 k (j 2))).signExtend 32 := by
  unfold val_main_v8
  rw [← fold_addi, Host.reduce_eq_fold, Shape.ReducesTo.fold_fiber_r4_a2]
  refine congrArg (fun f => Finset.fold IntOp.addi 0#32 f Finset.univ) (funext fun k => ?_)
  rw [val_main_v7_apply, val_main_v5_apply, val_main_v6_apply, val_main_v3_apply, val_main_v4_apply]
  refine congrArg₂ (fun (a b : BitVec 8) => a.signExtend 32 * b.signExtend 32) (congrArg x0 ?_) (congrArg x2 ?_)
  · funext a
    match a with
    | ⟨0, _⟩ => rfl
    | ⟨1, _⟩ => rfl
    | ⟨2, _⟩ => rfl
  · funext a
    match a with
    | ⟨0, _⟩ => rfl
    | ⟨1, _⟩ => rfl

/-- The reference's result at an entry is `G` of the arguments. -/
theorem result_eq (x0 : S2x8192x5120.Idx → BitVec 8) (x1 : S_.Idx → BitVec 32) (x2 : S5120x27648.Idx → BitVec 8)
    (x3 : S27648.Idx → BitVec 32) (x4 : S27648.Idx → EReal) (x5 : S_.Idx → BitVec 32) :
    val_main_v29 (F := Ideal) x0 x1 x2 x3 x4 x5 = G x0 x1 x2 x3 x4 x5 := by
  funext i
  have h0 : (i 0).val < 16384 := (i 0).isLt
  have h1 : (i 1).val < 27648 := (i 1).isLt
  obtain ⟨J, hJ⟩ : ∃ J : S2x8192x27648.Idx,
      J = ix3 ⟨(i 0).val / 8192, by omega⟩ ⟨(i 0).val % 8192, Nat.mod_lt _ (by decide)⟩ (i 1) := ⟨_, rfl⟩
  have hj : idx_main_v29 i = J := by
    subst hJ
    funext a; apply Fin.ext
    match a with
    | ⟨0, _⟩ => show ((i 0).val * 27648 + (i 1).val) / 226492416 = (i 0).val / 8192; omega
    | ⟨1, _⟩ => show ((i 0).val * 27648 + (i 1).val) / 27648 % 8192 = (i 0).val % 8192; omega
    | ⟨2, _⟩ => show ((i 0).val * 27648 + (i 1).val) % 27648 = (i 1).val; omega
  have e0 : ∀ (x : S_.Idx → BitVec 32) (a : S_.Idx), x a = x ix0 := fun x a => congrArg x (funext fun q => q.elim0)
  rw [val_main_v29_apply, hj]
  have hc : idx_main_v12 (idx_main_v13 J) = ix1 (J 2) := by
    funext a
    match a with
    | ⟨0, _⟩ => rfl
  have hs : idx_main_v20 (idx_main_v21 J) = ix1 (J 2) := by
    funext a
    match a with
    | ⟨0, _⟩ => rfl
  have e14 : val_main_v14 (F := Ideal) x0 x1 x2 x3 J
      = (∑ k : Fin 5120, (x0 (ix3 (J 0) (J 1) k)).signExtend 32 * (x2 (ix2 k (J 2))).signExtend 32)
        + (x3 (ix1 (J 2)) - x1 ix0 * ∑ k : Fin 5120, (x2 (ix2 k (J 2))).signExtend 32) := by
    rw [val_main_v14_apply, v8_apply, val_main_v13_apply, val_main_v12_apply, val_main_v11_apply, val_main_v10_apply, val_main_v9_apply,
      v1_apply, e0 x1, hc]
    rfl
  have e21 : val_main_v21 (F := Ideal) x4 J = x4 (ix1 (J 2)) := by
    rw [val_main_v21_apply, val_main_v20_apply, hs]; rfl
  have eG : G x0 x1 x2 x3 x4 x5 i = rq (x5 ix0) (x4 (ix1 (J 2)))
      ((∑ k : Fin 5120, (x0 (ix3 (J 0) (J 1) k)).signExtend 32 * (x2 (ix2 k (J 2))).signExtend 32)
        + (x3 (ix1 (J 2)) - x1 ix0 * ∑ k : Fin 5120, (x2 (ix2 k (J 2))).signExtend 32)) := by
    subst hJ; rfl
  rw [eG, ← e14, ← e21]
  rw [val_main_v28_apply, val_main_v27_apply, val_main_v26_apply, val_main_v25_apply, val_main_v24_apply, val_main_v23_apply,
    val_main_call0_v2_apply, val_main_call0_v1_apply, val_main_call0_v0_apply, val_main_v22_apply, val_main_v19_apply, e0 x5]
  rw [val_main_v18_apply, val_main_v16_apply, val_main_v17_apply, val_main_v15_apply, e0 x5]
  rfl

variable (m : (ℓ : Loc nD τ sig) → Buf (Elt Ideal) ℓ) (ρ : Dev nD → PrngReg)

/-- THE REFERENCE'S RUN: its result ends at `G` of the arguments, and the arguments end unchanged. -/
theorem run : θ_run defs (onTc (τ := τ) (main (F := Ideal))) ⟨m, fun _ => 0, ρ⟩ fun r => ∀ c : Dev nD,
      r.2.mem ((c.tc : Thread nD τ).loc main_v29) = G (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1.trans (val_main_v29_eq (F := Ideal) _ _ _ _ _ _)).trans (result_eq _ _ _ _ _ _), (h c).2⟩)
    (Cert.ReferenceIdeal.Value.run (F := Ideal) m ρ)

/-- THE REFERENCE'S FRAME: every weakly fair execution terminates with the arguments unchanged and every semaphore at zero
    (the program has no semaphores). -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2, sem_eq_zero_of_no_sems (by decide) r.2⟩)
    (Cert.ReferenceIdeal.Value.run (F := Ideal) m ρ)

end Cert.ReferenceIdeal.Hand

end
-- ==== Proof.lean ====
/-
  The proof of `Cert.Claim`: the kernel, its reading over the reals and the reference run, leave their arguments unchanged and
  their semaphores at zero; and over the reals the kernel's result equals the reference's, entry by entry. The kernel's
  frame is `Proof.HandFrame`, for any reading of the floats (`Proof.KernelFrame`: as printed); its value over the reals is `Proof.KernelValue.run`; the reference's frame and value are `Proof.RefValue`.
-/
module

public import proofs.«01_k».proof.Defs
public import proofs.«01_k».proof.Proof.Gen.Kernel
public import proofs.«01_k».proof.Proof.KernelFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.KernelValue
public import proofs.«01_k».proof.Proof.Gen.ReferenceIdeal
public import proofs.«01_k».proof.Proof.Gen.ReferenceIdeal.Run
public import proofs.«01_k».proof.Proof.Gen.ReferenceIdeal.Read
public import proofs.«01_k».proof.Proof.RefValue
public import Idealize.ShloMosaic.Adequacy
public import Idealize.ShloMosaic.Init

@[expose] public section

noncomputable section

namespace Cert.Proof

open Idealize.ShloMosaic Idealize.SL.Sem

/-- Over the reals, from memories that agree on the arguments, the kernel and the reference both run and end with the same
    result: the function `G` of the arguments. -/
theorem algebraic : Cert.algebraic_KernelIdeal_ReferenceIdeal
    (hKernelIdeal := Cert.KernelIdeal.Gen.facts) (hReferenceIdeal := Cert.ReferenceIdeal.Gen.facts) := by
  intro m ρ m' ρ' _ hm
  refine ⟨fun c => Cert.KernelIdeal.Hand.Gm m c, Cert.KernelIdeal.Hand.run m ρ, ?_⟩
  refine (θ_run Cert.ReferenceIdeal.defs _ _).mono (fun r h c => ⟨(h c).1.trans ?_, (h c).2⟩) (Cert.ReferenceIdeal.Hand.run m' ρ')
  obtain ⟨h0, h1, h2, h3, h4, h5⟩ := hm c
  rw [h0, h1, h2, h3, h4, h5]

/-- The certificate: the three frames, the (empty) idealization claim, and the equality of the results. -/
theorem claim : Cert.Claim := ⟨Cert.Kernel.Gen.facts, Cert.KernelIdeal.Gen.facts, Cert.ReferenceIdeal.Gen.facts,
  Cert.Kernel.Hand.frame,
  fun m ρ _ => Cert.KernelIdeal.Hand.frame m ρ,
  fun m ρ _ => Cert.ReferenceIdeal.Hand.frame m ρ,
  trivial,
  algebraic⟩

end Cert.Proof

end
